-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S512x2048 : Shape := ⟨2, ![512, 2048]⟩
abbrev S8x512x256 : Shape := ⟨3, ![8, 512, 256]⟩
abbrev S3x128 : Shape := ⟨2, ![3, 128]⟩
abbrev S4x128 : Shape := ⟨2, ![4, 128]⟩
abbrev S1x128 : Shape := ⟨2, ![1, 128]⟩
abbrev S3 : Shape := ⟨1, ![3]⟩
abbrev S8 : Shape := ⟨1, ![8]⟩
abbrev S_ : Shape := ⟨0, ![]⟩
abbrev S512x256 : Shape := ⟨2, ![512, 256]⟩
abbrev S1x512x256 : Shape := ⟨3, ![1, 512, 256]⟩
abbrev S1 : Shape := ⟨1, ![1]⟩
abbrev S1x1x1 : Shape := ⟨3, ![1, 1, 1]⟩
abbrev S1x1x128 : Shape := ⟨3, ![1, 1, 128]⟩

abbrev nBuf : Space → Nat
  | .hbm => 3
  | .vmem => 10
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S4096x256, .f32⟩
  | .local _ .vmem, ⟨3, _⟩ => ⟨S512x2048, .f32⟩
  | .local _ .vmem, ⟨4, _⟩ => ⟨S8x512x256, .fp8e4m3⟩
  | .local _ .vmem, ⟨5, _⟩ => ⟨S8x512x256, .fp8e4m3⟩
  | .local _ .vmem, ⟨6, _⟩ => ⟨S8x512x256, .f32⟩
  | .local _ .vmem, ⟨7, _⟩ => ⟨S3x128, .f32⟩
  | .local _ .vmem, ⟨8, _⟩ => ⟨S4x128, .f32⟩
  | .local _ .vmem, ⟨9, _⟩ => ⟨S1x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem1_1 : DmaSem sig := 2
abbrev barrier0 : Sem sig := 0

abbrev nD : Nat := 8
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_5 : BitVec 32 := 0#32
  let v13 : BitVec 1 := Scalar.cmpi .ne v2 c0_i32_5
  let v14 : BitVec 32 := Scalar.extui v13
  let c0_i32_6 : BitVec 32 := 0#32
  let v15 : BitVec 1 := Scalar.cmpi .ne v14 c0_i32_6
  v15

def k0_dev1 : Nat :=
  let c0_i32_18 : BitVec 32 := 0#32
  let c0_i32_16 : BitVec 32 := 0#32
  let c1_i32_17 : BitVec 32 := 1#32
  let v37 : BitVec 32 := Scalar.muli c0_i32_16 c1_i32_17
  let v38 : BitVec 32 := Scalar.addi c0_i32_18 v37
  v38.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v16 : BitVec 1 := Scalar.cmpi .ne v2 c1_i32_7
  let v17 : BitVec 32 := Scalar.extui v16
  let c0_i32_8 : BitVec 32 := 0#32
  let v18 : BitVec 1 := Scalar.cmpi .ne v17 c0_i32_8
  v18

def k0_dev2 : Nat :=
  let c0_i32_18 : BitVec 32 := 0#32
  let c1_i32_16 : BitVec 32 := 1#32
  let c1_i32_17 : BitVec 32 := 1#32
  let v37 : BitVec 32 := Scalar.muli c1_i32_16 c1_i32_17
  let v38 : BitVec 32 := Scalar.addi c0_i32_18 v37
  v38.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v19 : BitVec 1 := Scalar.cmpi .ne v2 c2_i32
  let v20 : BitVec 32 := Scalar.extui v19
  let c0_i32_9 : BitVec 32 := 0#32
  let v21 : BitVec 1 := Scalar.cmpi .ne v20 c0_i32_9
  v21

def k0_dev3 : Nat :=
  let c0_i32_18 : BitVec 32 := 0#32
  let c2_i32_16 : BitVec 32 := 2#32
  let c1_i32_17 : BitVec 32 := 1#32
  let v37 : BitVec 32 := Scalar.muli c2_i32_16 c1_i32_17
  let v38 : BitVec 32 := Scalar.addi c0_i32_18 v37
  v38.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v22 : BitVec 1 := Scalar.cmpi .ne v2 c3_i32
  let v23 : BitVec 32 := Scalar.extui v22
  let c0_i32_10 : BitVec 32 := 0#32
  let v24 : BitVec 1 := Scalar.cmpi .ne v23 c0_i32_10
  v24

def k0_dev4 : Nat :=
  let c0_i32_18 : BitVec 32 := 0#32
  let c3_i32_16 : BitVec 32 := 3#32
  let c1_i32_17 : BitVec 32 := 1#32
  let v37 : BitVec 32 := Scalar.muli c3_i32_16 c1_i32_17
  let v38 : BitVec 32 := Scalar.addi c0_i32_18 v37
  v38.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v25 : BitVec 1 := Scalar.cmpi .ne v2 c4_i32
  let v26 : BitVec 32 := Scalar.extui v25
  let c0_i32_11 : BitVec 32 := 0#32
  let v27 : BitVec 1 := Scalar.cmpi .ne v26 c0_i32_11
  v27

def k0_dev5 : Nat :=
  let c0_i32_18 : BitVec 32 := 0#32
  let c4_i32_16 : BitVec 32 := 4#32
  let c1_i32_17 : BitVec 32 := 1#32
  let v37 : BitVec 32 := Scalar.muli c4_i32_16 c1_i32_17
  let v38 : BitVec 32 := Scalar.addi c0_i32_18 v37
  v38.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v28 : BitVec 1 := Scalar.cmpi .ne v2 c5_i32
  let v29 : BitVec 32 := Scalar.extui v28
  let c0_i32_12 : BitVec 32 := 0#32
  let v30 : BitVec 1 := Scalar.cmpi .ne v29 c0_i32_12
  v30

def k0_dev6 : Nat :=
  let c0_i32_18 : BitVec 32 := 0#32
  let c5_i32_16 : BitVec 32 := 5#32
  let c1_i32_17 : BitVec 32 := 1#32
  let v37 : BitVec 32 := Scalar.muli c5_i32_16 c1_i32_17
  let v38 : BitVec 32 := Scalar.addi c0_i32_18 v37
  v38.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v31 : BitVec 1 := Scalar.cmpi .ne v2 c6_i32
  let v32 : BitVec 32 := Scalar.extui v31
  let c0_i32_13 : BitVec 32 := 0#32
  let v33 : BitVec 1 := Scalar.cmpi .ne v32 c0_i32_13
  v33

def k0_dev7 : Nat :=
  let c0_i32_18 : BitVec 32 := 0#32
  let c6_i32_16 : BitVec 32 := 6#32
  let c1_i32_17 : BitVec 32 := 1#32
  let v37 : BitVec 32 := Scalar.muli c6_i32_16 c1_i32_17
  let v38 : BitVec 32 := Scalar.addi c0_i32_18 v37
  v38.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v34 : BitVec 1 := Scalar.cmpi .ne v2 c7_i32
  let v35 : BitVec 32 := Scalar.extui v34
  let c0_i32_14 : BitVec 32 := 0#32
  let v36 : BitVec 1 := Scalar.cmpi .ne v35 c0_i32_14
  v36

def k0_dev8 : Nat :=
  let c0_i32_18 : BitVec 32 := 0#32
  let c7_i32_16 : BitVec 32 := 7#32
  let c1_i32_17 : BitVec 32 := 1#32
  let v37 : BitVec 32 := Scalar.muli c7_i32_16 c1_i32_17
  let v38 : BitVec 32 := Scalar.addi c0_i32_18 v37
  v38.toNat
def k0_cond10 (i : grid0.Coords) : BitVec 1 :=
  let arg0 : BitVec 32 := BitVec.ofNat 32 (i 0).val
  let c8_i32_1 : BitVec 32 := 8#32
  let v6 : BitVec 1 := Scalar.cmpi .slt arg0 c8_i32_1
  let v7 : BitVec 32 := Scalar.extui v6
  let c0_i32_2 : BitVec 32 := 0#32
  let v8 : BitVec 1 := Scalar.cmpi .ne v7 c0_i32_2
  v8

def k0_off1 (i : grid0.Coords) : Fin 2 → Nat :=
  let c0_9 : Index := 0#32
  let arg0 : BitVec 32 := BitVec.ofNat 32 (i 0).val
  let c256_i32 : BitVec 32 := 256#32
  let v19 : BitVec 32 := Scalar.muli arg0 c256_i32
  let v20 : Index := Scalar.indexCast v19
  ![0, v20.toNat]
def k0_cond13 (i : grid0.Coords) : BitVec 1 :=
  let arg0 : BitVec 32 := BitVec.ofNat 32 (i 0).val
  let c8_i32_3 : BitVec 32 := 8#32
  let v9 : BitVec 1 := Scalar.cmpi .eq arg0 c8_i32_3
  let v10 : BitVec 32 := Scalar.extui v9
  let c0_i32_4 : BitVec 32 := 0#32
  let v11 : BitVec 1 := Scalar.cmpi .ne v10 c0_i32_4
  v11

def k0_dev9 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.xori v2 c1_i32_6
  let c1_i32_11 : BitVec 32 := 1#32
  let v18 : BitVec 32 := Scalar.muli v14 c1_i32_11
  let v19 : BitVec 32 := Scalar.addi c0_i32_12 v18
  v19.toNat
def k0_dev10 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v34 : BitVec 32 := Scalar.xori v2 c2_i32
  let c1_i32_30 : BitVec 32 := 1#32
  let v38 : BitVec 32 := Scalar.muli v34 c1_i32_30
  let v39 : BitVec 32 := Scalar.addi c0_i32_31 v38
  v39.toNat
def k0_dev11 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v54 : BitVec 32 := Scalar.xori v2 c4_i32
  let c1_i32_49 : BitVec 32 := 1#32
  let v58 : BitVec 32 := Scalar.muli v54 c1_i32_49
  let v59 : BitVec 32 := Scalar.addi c0_i32_50 v58
  v59.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let v87 : BitVec 1 := Scalar.cmpi .ne v2 c0_i32_72
  let v88 : BitVec 32 := Scalar.extui v87
  let c0_i32_73 : BitVec 32 := 0#32
  let v89 : BitVec 1 := Scalar.cmpi .ne v88 c0_i32_73
  v89

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_218 : BitVec 32 := 0#32
  let c0_i32_219 : BitVec 32 := 0#32
  ![v2.toNat, 0, 0]
def k0_dev12 : Nat :=
  let c0_i32_217 : BitVec 32 := 0#32
  let c0_i32_215 : BitVec 32 := 0#32
  let c1_i32_216 : BitVec 32 := 1#32
  let v278 : BitVec 32 := Scalar.muli c0_i32_215 c1_i32_216
  let v279 : BitVec 32 := Scalar.addi c0_i32_217 v278
  v279.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_78 : BitVec 32 := 1#32
  let v97 : BitVec 1 := Scalar.cmpi .ne v2 c1_i32_78
  let v98 : BitVec 32 := Scalar.extui v97
  let c0_i32_79 : BitVec 32 := 0#32
  let v99 : BitVec 1 := Scalar.cmpi .ne v98 c0_i32_79
  v99

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_218 : BitVec 32 := 0#32
  let c0_i32_219 : BitVec 32 := 0#32
  ![v2.toNat, 0, 0]
def k0_dev13 : Nat :=
  let c0_i32_217 : BitVec 32 := 0#32
  let c1_i32_215 : BitVec 32 := 1#32
  let c1_i32_216 : BitVec 32 := 1#32
  let v278 : BitVec 32 := Scalar.muli c1_i32_215 c1_i32_216
  let v279 : BitVec 32 := Scalar.addi c0_i32_217 v278
  v279.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_84 : BitVec 32 := 2#32
  let v107 : BitVec 1 := Scalar.cmpi .ne v2 c2_i32_84
  let v108 : BitVec 32 := Scalar.extui v107
  let c0_i32_85 : BitVec 32 := 0#32
  let v109 : BitVec 1 := Scalar.cmpi .ne v108 c0_i32_85
  v109

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_218 : BitVec 32 := 0#32
  let c0_i32_219 : BitVec 32 := 0#32
  ![v2.toNat, 0, 0]
def k0_dev14 : Nat :=
  let c0_i32_217 : BitVec 32 := 0#32
  let c2_i32_215 : BitVec 32 := 2#32
  let c1_i32_216 : BitVec 32 := 1#32
  let v278 : BitVec 32 := Scalar.muli c2_i32_215 c1_i32_216
  let v279 : BitVec 32 := Scalar.addi c0_i32_217 v278
  v279.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v117 : BitVec 1 := Scalar.cmpi .ne v2 c3_i32
  let v118 : BitVec 32 := Scalar.extui v117
  let c0_i32_89 : BitVec 32 := 0#32
  let v119 : BitVec 1 := Scalar.cmpi .ne v118 c0_i32_89
  v119

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_218 : BitVec 32 := 0#32
  let c0_i32_219 : BitVec 32 := 0#32
  ![v2.toNat, 0, 0]
def k0_dev15 : Nat :=
  let c0_i32_217 : BitVec 32 := 0#32
  let c3_i32_215 : BitVec 32 := 3#32
  let c1_i32_216 : BitVec 32 := 1#32
  let v278 : BitVec 32 := Scalar.muli c3_i32_215 c1_i32_216
  let v279 : BitVec 32 := Scalar.addi c0_i32_217 v278
  v279.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_93 : BitVec 32 := 4#32
  let v127 : BitVec 1 := Scalar.cmpi .ne v2 c4_i32_93
  let v128 : BitVec 32 := Scalar.extui v127
  let c0_i32_94 : BitVec 32 := 0#32
  let v129 : BitVec 1 := Scalar.cmpi .ne v128 c0_i32_94
  v129

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_218 : BitVec 32 := 0#32
  let c0_i32_219 : BitVec 32 := 0#32
  ![v2.toNat, 0, 0]
def k0_dev16 : Nat :=
  let c0_i32_217 : BitVec 32 := 0#32
  let c4_i32_215 : BitVec 32 := 4#32
  let c1_i32_216 : BitVec 32 := 1#32
  let v278 : BitVec 32 := Scalar.muli c4_i32_215 c1_i32_216
  let v279 : BitVec 32 := Scalar.addi c0_i32_217 v278
  v279.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v137 : BitVec 1 := Scalar.cmpi .ne v2 c5_i32
  let v138 : BitVec 32 := Scalar.extui v137
  let c0_i32_98 : BitVec 32 := 0#32
  let v139 : BitVec 1 := Scalar.cmpi .ne v138 c0_i32_98
  v139

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_218 : BitVec 32 := 0#32
  let c0_i32_219 : BitVec 32 := 0#32
  ![v2.toNat, 0, 0]
def k0_dev17 : Nat :=
  let c0_i32_217 : BitVec 32 := 0#32
  let c5_i32_215 : BitVec 32 := 5#32
  let c1_i32_216 : BitVec 32 := 1#32
  let v278 : BitVec 32 := Scalar.muli c5_i32_215 c1_i32_216
  let v279 : BitVec 32 := Scalar.addi c0_i32_217 v278
  v279.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v147 : BitVec 1 := Scalar.cmpi .ne v2 c6_i32
  let v148 : BitVec 32 := Scalar.extui v147
  let c0_i32_102 : BitVec 32 := 0#32
  let v149 : BitVec 1 := Scalar.cmpi .ne v148 c0_i32_102
  v149

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_218 : BitVec 32 := 0#32
  let c0_i32_219 : BitVec 32 := 0#32
  ![v2.toNat, 0, 0]
def k0_dev18 : Nat :=
  let c0_i32_217 : BitVec 32 := 0#32
  let c6_i32_215 : BitVec 32 := 6#32
  let c1_i32_216 : BitVec 32 := 1#32
  let v278 : BitVec 32 := Scalar.muli c6_i32_215 c1_i32_216
  let v279 : BitVec 32 := Scalar.addi c0_i32_217 v278
  v279.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_106 : BitVec 32 := 7#32
  let v157 : BitVec 1 := Scalar.cmpi .ne v2 c7_i32_106
  let v158 : BitVec 32 := Scalar.extui v157
  let c0_i32_107 : BitVec 32 := 0#32
  let v159 : BitVec 1 := Scalar.cmpi .ne v158 c0_i32_107
  v159

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_218 : BitVec 32 := 0#32
  let c0_i32_219 : BitVec 32 := 0#32
  ![v2.toNat, 0, 0]
def k0_dev19 : Nat :=
  let c0_i32_217 : BitVec 32 := 0#32
  let c7_i32_215 : BitVec 32 := 7#32
  let c1_i32_216 : BitVec 32 := 1#32
  let v278 : BitVec 32 := Scalar.muli c7_i32_215 c1_i32_216
  let v279 : BitVec 32 := Scalar.addi c0_i32_217 v278
  v279.toNat
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v160 : Index := Scalar.indexCast v2
  let c0_108 : Index := 0#32
  let c0_109 : Index := 0#32
  ![v160.toNat, 0, 0]
def k0_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v169 : BitVec 32 := Scalar.muli v2 c512_i32
  let c0_i32_112 : BitVec 32 := 0#32
  ![v169.toNat, 0]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_113 : BitVec 32 := 0#32
  let c0_i32_114 : BitVec 32 := 0#32
  ![v2.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 22
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Common.lean ====
/-
# The protocol of the eight-device kernel: cells, contents, schedule, what each device owes

Every device holds 512 rows of `x` and the whole of `w`. Over the first eight points of the grid a device computes its
512 rows of `relu (x w)`, a column block of 256 at each point, and the largest entry so far. At the ninth point the
devices meet on the barrier semaphore, exchange their maxima in three rounds (partner `c xor 1`, `c xor 2`,
`c xor 4`), quantise each column block by the common scale, send column block `b` to device `b`, and each device
dequantises the eight blocks it holds then into its 256 columns of the result.

Each semaphore is used once. For device `c`:
* the barrier: one unit from each other device, which hands over its landing slot for `c`'s block and, if it is a
  partner of `c`, the landing row of that exchange;
* exchange `r`, send side: the row sent comes back; receive side: the partner's row of that exchange;
* block `b`, send side (`b` not `c`): the slot sent comes back; receive side from `t` (not `c`): the quantised block of `t`;
* result block `t`: rows `512 t` of the result array written, and the staging slot back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the kernel's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

abbrev 𝒱₀ : Variants := Variants.none

/-! ## Partners -/

/-- The partner of device `c` in exchange `r`: `c xor 2^r`. -/
def px (r : Fin 3) (c : Dev nD) : Dev nD :=
  match r with
  | 0 => ⟨c.val ^^^ 1, by revert c; decide⟩
  | 1 => ⟨c.val ^^^ 2, by revert c; decide⟩
  | 2 => ⟨c.val ^^^ 4, by revert c; decide⟩

theorem px_px (r : Fin 3) (c : Dev nD) : px r (px r c) = c := by revert r c; decide
theorem px_ne (r : Fin 3) (c : Dev nD) : px r c ≠ c := by revert r c; decide

/-- Being partners in exchange `r`, as a permutation of the devices. -/
def pxE (r : Fin 3) : Dev nD ≃ Dev nD := ⟨px r, px r, px_px r, px_px r⟩

/-! ## Cells -/

/-- The barrier semaphore. -/
abbrev barS : Sem sig := (SemArray.scalar (sig.barrier 0 rfl) : Sems sig S_).sem
/-- The DMA semaphores: exchange `r`'s send and receive side, block `b`'s send side, the receive side of device `t`'s
    block, and the copy of result block `t`. -/
def rdS (r : Fin 3) : DmaSem sig := ⟨3 + r.val, by have := r.isLt; show _ < 33; omega⟩
def rdR (r : Fin 3) : DmaSem sig := ⟨6 + r.val, by have := r.isLt; show _ < 33; omega⟩
def snd (b : Dev nD) : DmaSem sig := ⟨9 + b.val, by have : b.val < 8 := b.isLt; show _ < 33; omega⟩
def rcv (t : Dev nD) : DmaSem sig := ⟨17 + t.val, by have : t.val < 8 := t.isLt; show _ < 33; omega⟩
def out (t : Dev nD) : DmaSem sig := ⟨25 + t.val, by have : t.val < 8 := t.isLt; show _ < 33; omega⟩

abbrev barCell (c : Dev nD) : GSem nD τ sig := ((c : Thread nD τ), .reg barS)
abbrev dcell (c : Dev nD) (q : DmaSem sig) : GSem nD τ sig := ((c : Thread nD τ), .dma q)

/-- What a semaphore is for. -/
inductive Role where
  | idle | bar | rdS (r : Fin 3) | rdR (r : Fin 3) | snd (b : Dev nD) | rcv (t : Dev nD) | out (t : Dev nD)
  deriving DecidableEq

def roleOf (s : SemLoc sig) : Role :=
  match s with
  | .reg q => if q = barS then .bar else .idle
  | .dma q =>
    if h0 : q.val < 3 then .idle
    else if h1 : q.val < 6 then .rdS ⟨q.val - 3, by omega⟩
    else if h2 : q.val < 9 then .rdR ⟨q.val - 6, by omega⟩
    else if h3 : q.val < 17 then .snd ⟨q.val - 9, by show _ < 8; omega⟩
    else if h4 : q.val < 25 then .rcv ⟨q.val - 17, by show _ < 8; omega⟩
    else if h5 : q.val < 33 then .out ⟨q.val - 25, by show _ < 8; omega⟩
    else .idle

theorem roleOf_bar : roleOf (.reg barS) = .bar := by decide
theorem roleOf_rdS (r : Fin 3) : roleOf (.dma (rdS r)) = .rdS r := by revert r; decide
theorem roleOf_rdR (r : Fin 3) : roleOf (.dma (rdR r)) = .rdR r := by revert r; decide
theorem roleOf_snd (b : Dev nD) : roleOf (.dma (snd b)) = .snd b := by revert b; decide
theorem roleOf_rcv (b : Dev nD) : roleOf (.dma (rcv b)) = .rcv b := by revert b; decide
theorem roleOf_out (b : Dev nD) : roleOf (.dma (out b)) = .out b := by revert b; decide

/-! ## Memrefs: slots of the buffers -/

/-- The sub-block of `M` of extents `size` at offset `off`. -/
abbrev slot {sp : Space} {s : Shape} {e : EltTy} (M : Memref sig .tc sp s e) (off size : Fin s.rank → ℕ)
    (h : ∀ a, off a + size a ≤ s.size a) : Memref sig .tc sp ⟨s.rank, size⟩ e :=
  M.slice (Rect.unit off size h) (fun _ => rfl)

abbrev yM : Memref sig .tc .vmem S512x2048 .f32 := Memref.whole cc0_scratch0
abbrev qsM : Memref sig .tc .vmem S8x512x256 .fp8e4m3 := Memref.whole cc0_scratch1
abbrev qrM : Memref sig .tc .vmem S8x512x256 .fp8e4m3 := Memref.whole cc0_scratch2
abbrev osM : Memref sig .tc .vmem S8x512x256 .f32 := Memref.whole cc0_scratch3
abbrev rdsM : Memref sig .tc .vmem S3x128 .f32 := Memref.whole cc0_scratch4
abbrev rdrM : Memref sig .tc .vmem S4x128 .f32 := Memref.whole cc0_scratch5
abbrev amM : Memref sig .tc .vmem S1x128 .f32 := Memref.whole cc0_scratch6
abbrev v1M : Memref sig .tc .hbm S4096x256 .f32 := Memref.whole main_v1

theorem inb_y (j : Dev nD) : ∀ a, (![0, 256 * j.val] : Fin 2 → ℕ) a + S512x256.size a ≤ S512x2048.size a := by revert j; decide
theorem inb_q (b : Dev nD) : ∀ a, (![b.val, 0, 0] : Fin 3 → ℕ) a + S1x512x256.size a ≤ S8x512x256.size a := by revert b; decide
theorem inb_s (r : Fin 3) : ∀ a, (![r.val, 0] : Fin 2 → ℕ) a + S1x128.size a ≤ S3x128.size a := by revert r; decide
theorem inb_r (r : Fin 4) : ∀ a, (![r.val, 0] : Fin 2 → ℕ) a + S1x128.size a ≤ S4x128.size a := by revert r; decide
theorem inb_a : ∀ a, (![0, 0] : Fin 2 → ℕ) a + S1x128.size a ≤ S1x128.size a := by decide
theorem inb_v (t : Dev nD) : ∀ a, (![512 * t.val, 0] : Fin 2 → ℕ) a + S512x256.size a ≤ S4096x256.size a := by revert t; decide

/-- Column block `j` of device `c`'s rows of `relu (x w)`. -/
abbrev yAt (c j : Dev nD) (X : Vec F S512x256 .f32) : sProp 𝕄 :=
  owns (c : Thread nD τ) (slot yM ![0, 256 * j.val] S512x256.size (inb_y j)) fullShare X
/-- Send slot `b` on device `c`. -/
abbrev qsAt (c b : Dev nD) (X : Vec F S1x512x256 .fp8e4m3) : sProp 𝕄 :=
  owns (c : Thread nD τ) (slot qsM ![b.val, 0, 0] S1x512x256.size (inb_q b)) fullShare X
/-- Landing slot `t` on device `c`. -/
abbrev qrAt (c t : Dev nD) (X : Vec F S1x512x256 .fp8e4m3) : sProp 𝕄 :=
  owns (c : Thread nD τ) (slot qrM ![t.val, 0, 0] S1x512x256.size (inb_q t)) fullShare X
/-- Staging slot `t` of the result on device `c`. -/
abbrev osAt (c t : Dev nD) (X : Vec F S1x512x256 .f32) : sProp 𝕄 :=
  owns (c : Thread nD τ) (slot osM ![t.val, 0, 0] S1x512x256.size (inb_q t)) fullShare X
/-- Row `r` of the maxima sent, on device `c`. -/
abbrev rdsAt (c : Dev nD) (r : Fin 3) (X : Vec F S1x128 .f32) : sProp 𝕄 :=
  owns (c : Thread nD τ) (slot rdsM ![r.val, 0] S1x128.size (inb_s r)) fullShare X
/-- Row `r` of the maxima received, on device `c`. -/
abbrev rdrAt (c : Dev nD) (r : Fin 4) (X : Vec F S1x128 .f32) : sProp 𝕄 :=
  owns (c : Thread nD τ) (slot rdrM ![r.val, 0] S1x128.size (inb_r r)) fullShare X
/-- The running maximum on device `c`. -/
abbrev amAt (c : Dev nD) (X : Vec F S1x128 .f32) : sProp 𝕄 :=
  owns (c : Thread nD τ) (slot amM ![0, 0] S1x128.size inb_a) fullShare X
/-- Rows `512 t` on of the result on device `c`. -/
abbrev v1At (c t : Dev nD) (X : Vec F S512x256 .f32) : sProp 𝕄 :=
  owns (c : Thread nD τ) (slot v1M ![512 * t.val, 0] S512x256.size (inb_v t)) fullShare X

/-- A slot of one leading row, seen without that row (as the copies take it). -/
abbrev sq {sp : Space} {e : EltTy} (M : Memref sig .tc sp S1x512x256 e) : Memref sig .tc sp S512x256 e :=
  M.squeeze S512x256 squeezes_S1x512x256_S512x256

/-- What one row, one quantised block and one result block credit a semaphore with. -/
abbrev Nr : ℕ := (slot rdrM ![(0 : Fin 4).val, 0] S1x128.size (inb_r 0)).view.dmaCredit
abbrev Nq : ℕ := (sq (slot qrM ![(0 : Dev nD).val, 0, 0] S1x512x256.size (inb_q 0))).view.dmaCredit
abbrev No : ℕ := (slot v1M ![512 * (0 : Dev nD).val, 0] S512x256.size (inb_v 0)).view.dmaCredit
theorem Nr_pos : 0 < Nr := View.dmaCredit_pos (slot rdrM ![(0 : Fin 4).val, 0] S1x128.size (inb_r 0)).view (by decide)
theorem Nq_pos : 0 < Nq := View.dmaCredit_pos (sq (slot qrM ![(0 : Dev nD).val, 0, 0] S1x512x256.size (inb_q 0))).view (by decide)
theorem No_pos : 0 < No := View.dmaCredit_pos (slot v1M ![512 * (0 : Dev nD).val, 0] S512x256.size (inb_v 0)).view (by decide)

/-! ## Contents -/

/-- Point `n` of the grid. -/
def pt (n : ℕ) : Fin cfg0.N := ⟨n % 9, by show _ < grid0.N; rw [N_0]; exact Nat.mod_lt _ (by decide)⟩

/-- Device `c`'s rows of `x`, and the column block of `w` staged at point `n`. -/
def xv (c : Dev nD) : Vec F S512x4096 .f32 := iblk m c 0 (pt 0)
def wv (c : Dev nD) (n : ℕ) : Vec F S4096x256 .f32 := iblk m c 1 (pt n)
/-- Column block `j` of `relu (x w)` on device `c`. -/
def yv (c j : Dev nD) : Vec F S512x256 .f32 := k0_pay2 (xv m c) (wv m c j.val)
/-- The largest entry of column blocks `0` to `n`, in every lane. -/
def amv (c : Dev nD) : ℕ → Vec F S1x128 .f32
  | 0 => k0_pay4 (xv m c) (wv m c 0)
  | n + 1 => k0_pay5 (xv m c) (wv m c (n + 1)) (amv c n)
/-- The row sent in each exchange, and the running maximum before exchanges 1 and 2. -/
def row0 (c : Dev nD) : Vec F S1x128 .f32 := k0_pay6 (amv m c 7)
def run1 (c : Dev nD) : Vec F S1x128 .f32 := k0_pay7 (amv m c 7) (row0 m (px 0 c))
def row1 (c : Dev nD) : Vec F S1x128 .f32 := k0_pay8 (amv m c 7) (row0 m (px 0 c))
def run2 (c : Dev nD) : Vec F S1x128 .f32 := k0_pay9 (run1 m c) (row1 m (px 1 c))
def row2 (c : Dev nD) : Vec F S1x128 .f32 := k0_pay10 (run1 m c) (row1 m (px 1 c))
def rowv (r : Fin 3) (c : Dev nD) : Vec F S1x128 .f32 :=
  match r with | 0 => row0 m c | 1 => row1 m c | 2 => row2 m c
/-- The common scale and its reciprocal, as device `c` computes them. -/
def scl (c : Dev nD) : F .f32 := k0_pay11 (run2 m c) (row2 m (px 2 c))
def isc (c : Dev nD) : F .f32 := k0_pay12 (run2 m c) (row2 m (px 2 c))
/-- Column block `b` of device `t`, quantised. -/
def qv (t b : Dev nD) : Vec F S1x512x256 .fp8e4m3 := k0_pay15 (isc m t) (yv m t b)
/-- What device `c` stages for rows `512 t` on of its result. -/
def ov (c t : Dev nD) : Vec F S1x512x256 .f32 := if t = c then k0_pay21 (scl m c) (qv m c c) else k0_pay22 (scl m c) (qv m t c)
/-- The same without its leading row: what the copy writes. -/
def rv (c t : Dev nD) : Vec F S512x256 .f32 := fun i => ov m c t (Shape.reshapeEquiv squeezes_S1x512x256_S512x256.numel_eq i)

/-! ## The schedule -/

abbrev yAny (c j : Dev nD) : sProp 𝕄 := iprop(∃ X, yAt (F := F) c j X)
abbrev qsAny (c b : Dev nD) : sProp 𝕄 := iprop(∃ X, qsAt (F := F) c b X)
abbrev qrAny (c t : Dev nD) : sProp 𝕄 := iprop(∃ X, qrAt (F := F) c t X)
abbrev osAny (c t : Dev nD) : sProp 𝕄 := iprop(∃ X, osAt (F := F) c t X)
abbrev rdsAny (c : Dev nD) (r : Fin 3) : sProp 𝕄 := iprop(∃ X, rdsAt (F := F) c r X)
abbrev rdrAny (c : Dev nD) (r : Fin 4) : sProp 𝕄 := iprop(∃ X, rdrAt (F := F) c r X)
abbrev amAny (c : Dev nD) : sProp 𝕄 := iprop(∃ X, amAt (F := F) c X)
abbrev v1Any (c t : Dev nD) : sProp 𝕄 := iprop(∃ X, v1At (F := F) c t X)

/-- Device `d`'s landing row of exchange `r`, if `c` is its partner there. -/
def rowPay (r : Fin 3) (c d : Dev nD) : sProp 𝕄 := if px r d = c then rdrAny (F := F) d r.castSucc else iprop(emp)
/-- What device `d`'s signal hands device `c`: `d`'s landing slot for `c`'s block, and `d`'s landing rows of the exchanges
    it has with `c`. -/
def barPay (c d : Dev nD) : sProp 𝕄 := iprop(qrAny (F := F) d c ∗ rowPay (F := F) 0 c d ∗ rowPay (F := F) 1 c d ∗ rowPay (F := F) 2 c d)

def dutiesOf (o : Role) (c : Dev nD) : Finset (Dev nD) :=
  match o with
  | .idle => ∅
  | .bar => Finset.univ.erase c
  | .rdS _ | .rdR _ | .out _ => {0}
  | .snd b | .rcv b => if b = c then ∅ else {0}

def amountOf (o : Role) : ℕ :=
  match o with
  | .idle | .bar => 1
  | .rdS _ | .rdR _ => Nr
  | .snd _ | .rcv _ => Nq
  | .out _ => No

def payOf (o : Role) (c d : Dev nD) : sProp 𝕄 :=
  match o with
  | .idle => iprop(emp)
  | .bar => barPay (F := F) c d
  | .rdS r => rdsAny (F := F) c r
  | .rdR r => rdrAt c r.castSucc (rowv m r (px r c))
  | .snd b => qsAny (F := F) c b
  | .rcv t => qrAt c t (qv m t c)
  | .out t => iprop(v1At c t (rv m c t) ∗ osAny (F := F) c t)

theorem amountOf_pos (o : Role) : 0 < amountOf o := by
  cases o <;> first | exact Nat.one_pos | exact Nr_pos | exact Nq_pos | exact No_pos

/-- One round, round 0, on each TensorCore's semaphores by what each is for. -/
def Rd : Rounds.Schedule (GSem nD τ sig) (Dev nD) 𝕄 where
  duties g r := if r = 0 ∧ g.1.2 = .tc then dutiesOf (roleOf g.2) g.1.1 else ∅
  unitless _ := False
  amount g _ _ := amountOf (roleOf g.2)
  payload g _ d := payOf m (roleOf g.2) g.1.1 d
  amount_pos g _ _ _ := amountOf_pos _

instance Rd_payload_storable (g : GSem nD τ sig) (r : ℕ) (d : Dev nD) :
    BI.Storable (upEmb : UEmb _ 𝕄) ((Rd (F := F) m).payload g r d) := by
  show BI.Storable upEmb (payOf m (roleOf g.2) g.1.1 d)
  unfold payOf barPay rowPay
  (repeat' split) <;> infer_instance

theorem duties_at (c : Dev nD) (s : SemLoc sig) {o : Role} (h : roleOf s = o) : (Rd (F := F) m).duties ((c : Thread nD τ), s) 0 = dutiesOf o c := by
  subst h; dsimp only [Rd]; exact if_pos ⟨rfl, rfl⟩
theorem duties_later (g : GSem nD τ sig) : ∀ r, 1 ≤ r → (Rd (F := F) m).duties g r = ∅ :=
  fun r hr => by dsimp only [Rd]; exact if_neg fun h => by omega
theorem amount_at (c : Dev nD) (s : SemLoc sig) {o : Role} (h : roleOf s = o) (d : Dev nD) :
    (Rd (F := F) m).amount ((c : Thread nD τ), s) 0 d = amountOf o := by subst h; rfl
theorem payload_at (c : Dev nD) (s : SemLoc sig) {o : Role} (h : roleOf s = o) (d : Dev nD) :
    (Rd (F := F) m).payload ((c : Thread nD τ), s) 0 d = payOf m o c d := by subst h; rfl

/-- A semaphore of one duty expects that duty's amount, and its round hands over that duty's payload. -/
theorem expect_one (c : Dev nD) (s : SemLoc sig) {o : Role} (h : roleOf s = o) (hd : dutiesOf o c = {0}) :
    (Rd (F := F) m).expect ((c : Thread nD τ), s) 0 = amountOf o := by
  unfold Schedule.expect Schedule.amountOf; rw [duties_at m c s h, hd, Finset.sum_singleton, amount_at m c s h]
theorem rest_one (c : Dev nD) (s : SemLoc sig) {o : Role} (h : roleOf s = o) (hd : dutiesOf o c = {0}) :
    bigSep ((Rd (F := F) m).duties ((c : Thread nD τ), s) 0 \ ∅) (fun d => (Rd (F := F) m).payload ((c : Thread nD τ), s) 0 d) = payOf m o c 0 := by
  rw [Finset.sdiff_empty, duties_at m c s h, hd, bigSep_singleton, payload_at m c s h]
theorem expect_bar (c : Dev nD) : (Rd (F := F) m).expect (barCell c) 0 = 7 := by
  unfold Schedule.expect Schedule.amountOf
  rw [duties_at m c _ roleOf_bar, Finset.sum_congr rfl fun d _ => amount_at m c _ roleOf_bar d]
  show ∑ _ ∈ Finset.univ.erase c, 1 = 7
  rw [Finset.sum_const, Finset.card_erase_of_mem (Finset.mem_univ _), Finset.card_univ]; rfl
theorem rest_bar (c : Dev nD) :
    bigSep ((Rd (F := F) m).duties (barCell c) 0 \ ∅) (fun d => (Rd (F := F) m).payload (barCell c) 0 d) = bigSep (Finset.univ.erase c) (barPay (F := F) c) := by
  rw [Finset.sdiff_empty, duties_at m c _ roleOf_bar]
  exact bigSep_congr fun d _ => payload_at m c _ roleOf_bar d

/-! ## What a device owes -/

/-- The unit device `c` owes device `b`'s barrier, the row it owes its partner of exchange `r`, the block it owes
    device `b`. -/
def barOwe (c b : Dev nD) : CellTallies nD τ sig Unit := if c = b then 0 else tallyAt (barCell b) () 1
def rdOwe (c : Dev nD) (r : Fin 3) : CellTallies nD τ sig Unit := tallyAt (dcell (px r c) (rdR r)) () Nr
def qOwe (c b : Dev nD) : CellTallies nD τ sig Unit := if c = b then 0 else tallyAt (dcell b (rcv c)) () Nq

/-- The last `k` blocks owed; those and the last `k` rows; those and the last `k` units. -/
def OQ (c : Dev nD) : ℕ → CellTallies nD τ sig Unit
  | 0 => 0
  | k + 1 => OQ c k + qOwe c ⟨7 - k, by show _ < 8; omega⟩
def OR (c : Dev nD) : ℕ → CellTallies nD τ sig Unit
  | 0 => OQ c 8
  | k + 1 => OR c k + rdOwe c ⟨2 - k, by omega⟩
def OB (c : Dev nD) : ℕ → CellTallies nD τ sig Unit
  | 0 => OR c 3
  | k + 1 => OB c k + barOwe c ⟨7 - k, by show _ < 8; omega⟩

theorem OB_eq_sum (c : Dev nD) : OB c 8 = ∑ b : Dev nD, barOwe c b + ∑ r : Fin 3, rdOwe c r + ∑ b : Dev nD, qOwe c b := by
  have hb : ∀ f : Dev nD → CellTallies nD τ sig Unit, ∑ b, f b = f 0 + f 1 + f 2 + f 3 + f 4 + f 5 + f 6 + f 7 := fun f => Fin.sum_univ_eight f
  rw [hb, hb, Fin.sum_univ_three]
  show ((((((((OR c 3 + barOwe c 7) + barOwe c 6) + barOwe c 5) + barOwe c 4) + barOwe c 3) + barOwe c 2) + barOwe c 1) + barOwe c 0) = _
  rw [show OR c 3 = ((((((((((0 + qOwe c 7) + qOwe c 6) + qOwe c 5) + qOwe c 4) + qOwe c 3) + qOwe c 2) + qOwe c 1) + qOwe c 0)
    + rdOwe c 2) + rdOwe c 1) + rdOwe c 0 from rfl, zero_add]
  ac_rfl

def L (g : GSem nD τ sig) : Finset Unit := if g.1.2 = .tc then {()} else ∅
/-- The order of the waits: staging, then the barrier, the exchanges in turn, the blocks; sends wait for nobody. -/
def lvOf (o : Role) : ℕ := match o with | .bar => 1 | .rdR r => 2 + r.val | .rcv _ => 5 | _ => 0
def lv (g : GSem nD τ sig) (_ : Unit) : ℕ := lvOf (roleOf g.2)

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < (tallyAt g' () n : CellTallies nD τ sig Unit) g u) : g = g' := by
  by_contra hn
  rw [tallyAt_apply, if_neg (fun h' => hn h'.1)] at h
  exact Nat.lt_irrefl 0 h

theorem OQ_pos (c : Dev nD) : ∀ k {g : GSem nD τ sig} {u : Unit}, 0 < OQ c k g u → g.1.2 = .tc ∧ 5 ≤ lv g ()
  | 0, g, u, h => absurd h (Nat.lt_irrefl 0)
  | k + 1, g, u, h => by
    unfold OQ at h
    rw [Pi.add_apply, Finsupp.add_apply] at h
    rcases Nat.add_pos_iff_pos_or_pos.mp h with h | h
    · exact OQ_pos c k h
    · unfold qOwe at h
      split at h
      · exact absurd h (Nat.lt_irrefl 0)
      · rw [tally_pos h]; refine ⟨rfl, ?_⟩; unfold lv; rw [roleOf_rcv]; exact le_refl 5

theorem OR_pos (c : Dev nD) : ∀ k, k ≤ 3 → ∀ {g : GSem nD τ sig} {u : Unit}, 0 < OR c k g u → g.1.2 = .tc ∧ 5 - k ≤ lv g ()
  | 0, _, g, u, h => OQ_pos c 8 h
  | k + 1, hk, g, u, h => by
    unfold OR at h
    rw [Pi.add_apply, Finsupp.add_apply] at h
    rcases Nat.add_pos_iff_pos_or_pos.mp h with h | h
    · have := OR_pos c k (by omega) h; exact ⟨this.1, by omega⟩
    · unfold rdOwe at h
      rw [tally_pos h]; refine ⟨rfl, ?_⟩; unfold lv; rw [roleOf_rdR]
      show 5 - (k + 1) ≤ 2 + (2 - k); omega

theorem OB_pos (c : Dev nD) : ∀ k {g : GSem nD τ sig} {u : Unit}, 0 < OB c k g u → g.1.2 = .tc ∧ 1 ≤ lv g ()
  | 0, g, u, h => by have := OR_pos c 3 (le_refl _) h; exact ⟨this.1, by omega⟩
  | k + 1, g, u, h => by
    unfold OB at h
    rw [Pi.add_apply, Finsupp.add_apply] at h
    rcases Nat.add_pos_iff_pos_or_pos.mp h with h | h
    · exact OB_pos c k h
    · unfold barOwe at h
      split at h
      · exact absurd h (Nat.lt_irrefl 0)
      · rw [tally_pos h]; refine ⟨rfl, ?_⟩; unfold lv; rw [roleOf_bar]; exact le_refl 1

/-- A device may wait on a semaphore below everything it owes. -/
theorem mayWait (c : Dev nD) (sm : SemLoc sig) (O : CellTallies nD τ sig Unit) (n : ℕ) (hn : lvOf (roleOf sm) ≤ n)
    (hO : ∀ (g : GSem nD τ sig) (u : Unit), 0 < O g u → g.1.2 = .tc ∧ n + 1 ≤ lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## The records every device shares, and what each device has of its own -/

/-- The kernel's semaphores: the barrier, then the DMA semaphores after the staging ones. -/
abbrev osem : Fin 30 → SemLoc sig := fun k => .dma ⟨3 + k.val, by have := k.isLt; show _ < 33; omega⟩
abbrev csem : Fin 31 → SemLoc sig := fun k => if h : k.val = 0 then .reg barS else osem ⟨k.val - 1, by omega⟩
abbrev kcell (ck : Dev nD × Fin 31) : GSem nD τ sig := ((ck.1 : Thread nD τ), csem ck.2)

def records (K : Dev nD × Fin 31 → ℕ) : sProp 𝕄 :=
  iprop((bigSep Finset.univ fun ck : Dev nD × Fin 31 => cellInv ER (Rd m) (K ck) (kcell ck))
    ∗ bigSep Finset.univ fun ck : Dev nD × Fin 31 => reached ER (kcell ck) 0)
instance records_persistent (K : Dev nD × Fin 31 → ℕ) : BI.Persistent (records m K) := by unfold records; infer_instance

/-- The invariants of all semaphores at some names, every semaphore's round 0 reached, and the order of the waits. -/
def recs : sProp 𝕄 := iprop((∃ K, records m K) ∗ levAts L lv)
instance recs_persistent : BI.Persistent (recs (F := F) m) := by unfold recs; infer_instance

theorem recs_lev : recs m ⊢ (levAts L lv : sProp 𝕄) := by unfold recs; iintro ⟨-, H⟩; iexact H

theorem recs_at (ck : Dev nD × Fin 31) : recs m ⊢ iprop(∃ κ, cellInv ER (Rd m) κ (kcell ck) ∗ reached ER (kcell ck) 0) := by
  unfold recs records
  iintro ⟨⟨%K, HI, HR⟩, -⟩
  iexists K ck
  isplitl [HI]
  · iapply (show (bigSep Finset.univ fun ck : Dev nD × Fin 31 => (cellInv ER (Rd m) (K ck) (kcell ck) : sProp 𝕄)) ⊢ cellInv ER (Rd m) (K ck) (kcell ck)
      from bigSep_elim (Finset.mem_univ ck)); iexact HI
  · iapply (show (bigSep Finset.univ fun ck : Dev nD × Fin 31 => (reached ER (kcell ck) 0 : sProp 𝕄)) ⊢ reached ER (kcell ck) 0
      from bigSep_elim (Finset.mem_univ ck)); iexact HR

theorem recs_bar (c : Dev nD) : recs m ⊢ iprop(∃ κ, cellInv ER (Rd m) κ (barCell c) ∗ reached ER (barCell c) 0) := recs_at m (c, 0)
theorem recs_dma (c : Dev nD) (q : DmaSem sig) (h : 3 ≤ q.val) : recs m ⊢ iprop(∃ κ, cellInv ER (Rd m) κ (dcell c q) ∗ reached ER (dcell c q) 0) := by
  have hq : q.val < 33 := q.isLt
  have := recs_at m (c, ⟨q.val - 2, by omega⟩)
  have hk : kcell (c, ⟨q.val - 2, by omega⟩) = dcell c q := by
    show ((c : Thread nD τ), dite _ _ _) = _
    rw [dif_neg (by show ¬ q.val - 2 = 0; omega)]
    show ((c : Thread nD τ), SemLoc.dma (sig := sig) ⟨3 + (q.val - 2 - 1), _⟩) = ((c : Thread nD τ), SemLoc.dma q)
    have : (⟨3 + (q.val - 2 - 1), by show _ < 33; omega⟩ : DmaSem sig) = q := Fin.ext (by show 3 + (q.val - 2 - 1) = q.val; omega)
    rw [this]
  rwa [hk] at this

/-- What device `c` owes, whatever it waited for. -/
def owesE (c : Dev nD) (O : CellTallies nD τ sig Unit) : sProp 𝕄 := iprop(∃ W, owes (c : Thread nD τ) O W)

end Cert.KernelIdealProof

end
-- ==== Proof.Steps.lean ====
/-
# One operation of the kernel at a time

Each theorem says what one operation of the kernel (or one guarded group of operations) needs and what it leaves: loads
and stores of a slot, a signal, a wait, an addressed copy, a local copy. Offsets, devices and semaphores are taken as the
kernel computes them, with an equation to the name they have in `Common`.
-/
module

public import proofs.«01_k».proof.Proof.Common
public import Idealize.ShloMosaic.Lib.VecWindow

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A program of device `c`'s TensorCore runs without fault and ends in `Q`. -/
abbrev wpb (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores -/

/-- A load of a slot reads its contents. -/
theorem load_at {α : Type} {Q : α → sProp 𝕄} (c : Dev nD) {sp : CoreSpace} {s : Shape} {e : EltTy} {M : Memref sig .tc sp s e} {off size : Fin s.rank → ℕ}
    {h : ∀ a, off a + size a ≤ s.size a} {q : PosShare TreeShare} {X : (⟨s.rank, size⟩ : Shape).Idx → Elt F e} {off' : Fin s.rank → ℕ}
    (hoff : off' = off) {h' : ∀ a, off' a + size a ≤ s.size a}
    {hl : M.view.LoadsAt (Rect.unit off' size h').toLoadRect} {k : ((⟨s.rank, size⟩ : Shape).Idx → Elt F e) → Prog (TpuEff nD τ sig (Elt F) Λ₀ .tc) α} :
    (owns (c : Thread nD τ) (slot M off size h) q X : sProp 𝕄)
      ⊢ iprop((owns (c : Thread nD τ) (slot M off size h) q X -∗ wpb c (k X) Q)
          -∗ wpb c (.op (.load M (Rect.unit off' size h').toLoadRect hl) k) Q) := by
  subst hoff
  unfold owns
  iintro ⟨%f, %hf, H⟩ Hk
  iapply (wp_load_rect 𝒱₀ (c : Thread nD τ) none Set.univ (m := M) (r := Rect.unit off' size h') (Finset.Subset.refl _)) $$ H
  iintro H
  have hr : (M.access (Rect.unit off' size h')).read (Elt F) f = X := hf
  rw [hr]
  iapply Hk
  iexists f
  isplitr; · ipureintro; exact hf
  iexact H

/-- A store of a slot leaves the stored contents. -/
theorem store_at {α : Type} {Q : α → sProp 𝕄} (c : Dev nD) {sp : CoreSpace} {s : Shape} {e : EltTy} {M : Memref sig .tc sp s e} {off size : Fin s.rank → ℕ}
    {h : ∀ a, off a + size a ≤ s.size a} {X Y : (⟨s.rank, size⟩ : Shape).Idx → Elt F e} {off' : Fin s.rank → ℕ}
    (hoff : off' = off) {h' : ∀ a, off' a + size a ≤ s.size a}
    {hx : (M.access (Rect.unit off' size h')).Stores Finset.univ} {hm} {k : PUnit → Prog (TpuEff nD τ sig (Elt F) Λ₀ .tc) α} :
    (owns (c : Thread nD τ) (slot M off size h) fullShare X : sProp 𝕄)
      ⊢ iprop((owns (c : Thread nD τ) (slot M off size h) fullShare Y -∗ wpb c (k ⟨⟩) Q)
          -∗ wpb c (.op (.store M (Rect.unit off' size h') Y Finset.univ hx hm) k) Q) := by
  subst hoff
  unfold owns
  iintro ⟨%f, %hf, H⟩ Hk
  iapply (wp_store 𝒱₀ (c : Thread nD τ) none Set.univ (m := M) (r := Rect.unit off' size h') (Mk := Finset.univ) (View.setOn_subset_set _ _)) $$ H
  iintro H
  iapply Hk
  iexists _
  isplitr
  · ipureintro; exact View.read_write_univ (v := M.access (Rect.unit off' size h')) f Y
  iexact H

/-- A load of a whole memref reads its contents. -/
theorem load_full {α : Type} {Q : α → sProp 𝕄} (c : Dev nD) {sp : CoreSpace} {s : Shape} {e : EltTy} {M : Memref sig .tc sp s e} {q : PosShare TreeShare} {X : s.Idx → Elt F e}
    {off : Fin s.rank → ℕ} {h : ∀ a, off a + s.size a ≤ s.size a}
    {hl : M.view.LoadsAt (Rect.unit off s.size h).toLoadRect} {k : (s.Idx → Elt F e) → Prog (TpuEff nD τ sig (Elt F) Λ₀ .tc) α} :
    (owns (c : Thread nD τ) M q X : sProp 𝕄)
      ⊢ iprop((owns (c : Thread nD τ) M q X -∗ wpb c (k X) Q)
          -∗ wpb c (.op (.load M (Rect.unit off s.size h).toLoadRect hl) k) Q) := by
  unfold owns
  iintro ⟨%f, %hf, H⟩ Hk
  iapply (wp_load 𝒱₀ (c : Thread nD τ) none Set.univ (m := M) (r := (Rect.unit off s.size h).toLoadRect) (View.setOn_subset_set _ _)) $$ H
  iintro H
  rw [View.readAt_full, hf]
  iapply Hk
  iexists f
  isplitr; · ipureintro; exact hf
  iexact H

/-! ## The schedule's entries -/

theorem three_rdS (r : Fin 3) : 3 ≤ (rdS r).val := by revert r; decide
theorem three_rdR (r : Fin 3) : 3 ≤ (rdR r).val := by revert r; decide
theorem three_snd (b : Dev nD) : 3 ≤ (snd b).val := by revert b; decide
theorem three_rcv (b : Dev nD) : 3 ≤ (rcv b).val := by revert b; decide
theorem three_out (b : Dev nD) : 3 ≤ (out b).val := by revert b; decide

theorem payload_bar (c d : Dev nD) : (Rd (F := F) m).payload (barCell c) 0 d = barPay (F := F) c d := payload_at m c _ roleOf_bar d
theorem payload_rdS (c : Dev nD) (r : Fin 3) : (Rd (F := F) m).payload (dcell c (rdS r)) 0 0 = rdsAny (F := F) c r := payload_at m c _ (roleOf_rdS r) 0
theorem payload_rdR (c : Dev nD) (r : Fin 3) : (Rd (F := F) m).payload (dcell c (rdR r)) 0 0 = rdrAt c r.castSucc (rowv m r (px r c)) :=
  payload_at m c _ (roleOf_rdR r) 0
theorem payload_snd (c b : Dev nD) : (Rd (F := F) m).payload (dcell c (snd b)) 0 0 = qsAny (F := F) c b := payload_at m c _ (roleOf_snd b) 0
theorem payload_rcv (c t : Dev nD) : (Rd (F := F) m).payload (dcell c (rcv t)) 0 0 = qrAt c t (qv m t c) := payload_at m c _ (roleOf_rcv t) 0
theorem payload_out (c t : Dev nD) : (Rd (F := F) m).payload (dcell c (out t)) 0 0 = iprop(v1At c t (rv m c t) ∗ osAny (F := F) c t) :=
  payload_at m c _ (roleOf_out t) 0

theorem duty_rdS (c : Dev nD) (r : Fin 3) : 0 ∈ (Rd (F := F) m).duties (dcell c (rdS r)) 0 := by rw [duties_at m c _ (roleOf_rdS r)]; exact Finset.mem_singleton_self _
theorem duty_rdR (c : Dev nD) (r : Fin 3) : 0 ∈ (Rd (F := F) m).duties (dcell c (rdR r)) 0 := by rw [duties_at m c _ (roleOf_rdR r)]; exact Finset.mem_singleton_self _
theorem duty_snd {c b : Dev nD} (h : b ≠ c) : 0 ∈ (Rd (F := F) m).duties (dcell c (snd b)) 0 := by
  rw [duties_at m c _ (roleOf_snd b)]; show 0 ∈ ite _ _ _; rw [if_neg h]; exact Finset.mem_singleton_self _
theorem duty_rcv {c b : Dev nD} (h : b ≠ c) : 0 ∈ (Rd (F := F) m).duties (dcell c (rcv b)) 0 := by
  rw [duties_at m c _ (roleOf_rcv b)]; show 0 ∈ ite _ _ _; rw [if_neg h]; exact Finset.mem_singleton_self _
theorem duty_out (c t : Dev nD) : 0 ∈ (Rd (F := F) m).duties (dcell c (out t)) 0 := by rw [duties_at m c _ (roleOf_out t)]; exact Finset.mem_singleton_self _

/-! ## The credits -/

theorem credit_s (o : Fin 2 → ℕ) (i : ∀ a, o a + S1x128.size a ≤ S3x128.size a) : (slot rdsM o S1x128.size i).view.dmaCredit = Nr := rfl
theorem credit_r (o : Fin 2 → ℕ) (i : ∀ a, o a + S1x128.size a ≤ S4x128.size a) : (slot rdrM o S1x128.size i).view.dmaCredit = Nr := rfl
theorem credit_qs (o : Fin 3 → ℕ) (i : ∀ a, o a + S1x512x256.size a ≤ S8x512x256.size a) : (sq (slot qsM o S1x512x256.size i)).view.dmaCredit = Nq := rfl
theorem credit_qr (o : Fin 3 → ℕ) (i : ∀ a, o a + S1x512x256.size a ≤ S8x512x256.size a) : (sq (slot qrM o S1x512x256.size i)).view.dmaCredit = Nq := rfl
theorem credit_v (o : Fin 2 → ℕ) (i : ∀ a, o a + S512x256.size a ≤ S4096x256.size a) : (slot v1M o S512x256.size i).view.dmaCredit = No := rfl

/-! ## Signals and waits -/

/-- The guarded signal to device `b`: it hands over what `b` is to have of `c`, and one unit less is owed. -/
theorem signal_if {α : Type} {Q : α → sProp 𝕄} (c b : Dev nD) {C : Prop} [Decidable C] (hC : C ↔ c ≠ b) {n : C → Dev nD} (hn : ∀ h, n h = b) {a : ℕ} (ha : a = 1)
    {O₀ : CellTallies nD τ sig Unit} (O : CellTallies nD τ sig Unit) (hO : O₀ = O + barOwe c b) {K : Prog (TpuEff nD τ sig (Elt F) Λ₀ .tc) α} :
    iprop(recs m ∗ owesE (F := F) c O₀ ∗ dutyTok ER (barCell b) 0 c ∗ (if c = b then iprop(emp) else barPay (F := F) b c))
      ⊢ iprop((owesE (F := F) c O -∗ wpb c K Q)
          -∗ wpb c (dite C (fun h => .op (.semSignal (n h : Thread nD τ) barS a) fun _ => K) (fun _ => K)) Q) := by
  subst ha
  unfold barOwe at hO
  by_cases h : C
  · have hcb := hC.mp h
    rw [dif_pos h, if_neg hcb, hn h]
    rw [if_neg hcb] at hO
    unfold owesE
    iintro ⟨#Hr, ⟨%W, HO⟩, Ht, Hp⟩ Hk
    ihave Hc := (recs_bar m b) $$ Hr
    icases Hc with ⟨%κ, #HI, #HR⟩
    iapply (Rounds.wp_signal 𝒱₀ ER (Rd m) (c : Thread nD τ) none (dst := (b : Thread nD τ)) (κ := κ) (r := 0)
      (d := c) (by rw [duties_at m b _ roleOf_bar]; exact Finset.mem_erase.mpr ⟨hcb, Finset.mem_univ _⟩) (amount_at m b _ roleOf_bar c) () O hO) $$ [HO Ht Hp]
    · isplitr; · iexact HI
      isplitl [HO]; · iexact HO
      isplitl [Ht]; · iexact Ht
      isplitl [Hp]; · rw [payload_bar]; iexact Hp
      iexact HR
    iintro HO
    iapply Hk
    iexists W; iexact HO
  · have hcb : c = b := not_not.mp fun h' => h (hC.mpr h')
    rw [dif_neg h]
    rw [if_pos hcb, add_zero] at hO
    subst hO
    iintro ⟨-, HO, -, -⟩ Hk
    iapply Hk; iexact HO

/-- The wait on the barrier: every other device's slot and rows for `c`; the semaphore is zero again. -/
theorem wait_bar {α : Type} {Q : α → sProp 𝕄} (c : Dev nD) {a : ℕ} (ha : a = 7) {k : PUnit → Prog (TpuEff nD τ sig (Elt F) Λ₀ .tc) α} :
    iprop(recs m ∗ owesE (F := F) c (OR c 3) ∗ cred (tallyAt (barCell c) () 7) ∗ atPos ER (barCell c) 0 ∅ 0)
      ⊢ iprop(((owesE (F := F) c (OR c 3) ∗ semVal (barCell c) 0 ∗ bigSep (Finset.univ.erase c) (barPay (F := F) c)) -∗ wpb c (k ⟨⟩) Q)
          -∗ wpb c (.op (.semWait barS a) k) Q) := by
  subst ha
  unfold owesE
  iintro ⟨#Hr, ⟨%W, HO⟩, Hcr, Hat⟩ Hk
  ihave #Hlev := (recs_lev m) $$ Hr
  ihave Hc := (recs_bar m c) $$ Hr
  icases Hc with ⟨%κ, #HI, -⟩
  iapply (Rounds.wp_wait_rest_token 𝒱₀ ER (Rd m) (c : Thread nD τ) none (κ := κ) (sm := .reg barS) (k' := 7)
      (wpE_semWait_eq 𝒱₀ (c : Thread nD τ) none Set.univ) (Set.mem_univ _) () (O := OR c 3) (W := W) (R := 0) (m := 0) (T := ∅)
      (by rw [expect_bar])) $$ [Hcr HO Hat]
  · isplitr; · iexact HI
    isplitl [Hcr]; · iexact Hcr
    isplitl [HO]; · iexact HO
    isplitr
    · iapply (mayWait (F := F) c (.reg barS) (OR c 3) 1 (by rw [roleOf_bar]; exact le_refl _) fun g u h => OR_pos c 3 (le_refl _) h); iexact Hlev
    iexact Hat
  iintro ⟨HO, Hat, -, Hp⟩
  ihave Hp := (Entails.of_eq (rest_bar m c)) $$ Hp
  imod (Rounds.cell_close ER (Rd m) (Set.mem_univ κ) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- The wait on a DMA semaphore of one duty: its payload; the semaphore is zero again. -/
theorem wait_dma {α : Type} {Q : α → sProp 𝕄} (c : Dev nD) (q : DmaSem sig) (hq : 3 ≤ q.val) {o : Role} (ho : roleOf (.dma q) = o) (hd : dutiesOf o c = {0})
    {O : CellTallies nD τ sig Unit} (n : ℕ) (hn : lvOf o ≤ n) (hO : ∀ (g : GSem nD τ sig) (u : Unit), 0 < O g u → g.1.2 = .tc ∧ n + 1 ≤ lv g ())
    {q' : DmaSem sig} (hqq : q' = q) {sp sp' : Space} {s s' : Shape} {e e' : EltTy} {src : Memref sig .tc sp s e} {dst : Memref sig .tc sp' s' e'}
    (hN : dst.view.dmaCredit = amountOf o) {h1 h2} {k : PUnit → Prog (TpuEff nD τ sig (Elt F) Λ₀ .tc) α} :
    iprop(recs m ∗ owesE (F := F) c O ∗ cred (tallyAt (dcell c q) () (amountOf o)) ∗ atPos ER (dcell c q) 0 ∅ 0)
      ⊢ iprop(((owesE (F := F) c O ∗ semVal (dcell c q) 0 ∗ payOf m o c 0) -∗ wpb c (k ⟨⟩) Q)
          -∗ wpb c (.op (.waitDma2 q' src dst h1 h2) k) Q) := by
  subst hqq
  unfold owesE
  iintro ⟨#Hr, ⟨%W, HO⟩, Hcr, Hat⟩ Hk
  ihave #Hlev := (recs_lev m) $$ Hr
  ihave Hc := (recs_dma m c q' hq) $$ Hr
  icases Hc with ⟨%κ, #HI, -⟩
  rw [← hN]
  iapply (Rounds.wp_wait_rest_token 𝒱₀ ER (Rd m) (c : Thread nD τ) none (κ := κ) (sm := .dma q')
      (wpE_waitDma2_eq 𝒱₀ (c : Thread nD τ) none Set.univ) (Set.mem_univ _) () (O := O) (W := W) (R := 0) (m := 0) (T := ∅)
      (by rw [expect_one m c _ ho hd, ← hN, Nat.zero_add])) $$ [Hcr HO Hat]
  · isplitr; · iexact HI
    isplitl [Hcr]; · iexact Hcr
    isplitl [HO]; · iexact HO
    isplitr
    · iapply (mayWait (F := F) c (.dma q') O n (by rw [ho]; exact hn) hO); iexact Hlev
    iexact Hat
  iintro ⟨HO, Hat, -, Hp⟩
  ihave Hp := (Entails.of_eq (rest_one m c _ ho hd)) $$ Hp
  imod (Rounds.cell_close ER (Rd m) (Set.mem_univ κ) (fun h => h) (R := 0 + 1) (duties_later m (dcell c q'))) $$ [Hat] with Hz
  · isplitr; · iexact HI
    iexact Hat
  iapply Hk
  isplitl [HO]; · iexists _; iexact HO
  isplitl [Hz]; · iexact Hz
  iexact Hp

/-- A semaphore without duties is zero. -/
theorem close_idle (c : Dev nD) (q : DmaSem sig) (hq : 3 ≤ q.val) {o : Role} (ho : roleOf (.dma q) = o) (hd : dutiesOf o c = ∅) :
    iprop(recs m ∗ atPos ER (dcell c q) 0 ∅ 0) ⊢ iprop(|={Set.univ}=> (semVal (dcell c q) 0 : sProp 𝕄)) := by
  iintro ⟨#Hr, Hat⟩
  ihave Hc := (recs_dma m c q hq) $$ Hr
  icases Hc with ⟨%κ, #HI, -⟩
  iapply (Rounds.cell_close ER (Rd m) (Set.mem_univ κ) (fun h => h) (R := 0) (fun r _ => by
    rcases Nat.eq_zero_or_pos r with rfl | hr
    · rw [duties_at m c _ ho, hd]
    · exact duties_later m (dcell c q) r hr))
  isplitr; · iexact HI
  iexact Hat

/-! ## Copies -/

/-- A copy to another device, on memrefs owned whole: both semaphores' payloads from the source and from the destination
    holding the source's contents. -/
theorem send_gen {α : Type} {Q : α → sProp 𝕄} (c c' : Dev nD) {sp sp' : Space} {s : Shape} {e : EltTy} (src : Memref sig .tc sp s e) (dst : Memref sig .tc sp' s e) (X : s.Idx → Elt F e)
    (s1 s2 : DmaSem sig) (hs1 : 3 ≤ s1.val) (hs2 : 3 ≤ s2.val) (N : ℕ) (hN : dst.view.dmaCredit = N)
    (hd1 : 0 ∈ (Rd m).duties (dcell c s1) 0) (hd2 : 0 ∈ (Rd m).duties (dcell c' s2) 0)
    (ha1 : (Rd m).amount (dcell c s1) 0 0 = N) (ha2 : (Rd m).amount (dcell c' s2) 0 0 = N)
    (hp1 : (owns (c : Thread nD τ) src fullShare X : sProp 𝕄) ⊢ (Rd m).payload (dcell c s1) 0 0)
    (hp2 : (owns (c' : Thread nD τ) dst fullShare X : sProp 𝕄) ⊢ (Rd m).payload (dcell c' s2) 0 0)
    {O₀ : CellTallies nD τ sig Unit} (O : CellTallies nD τ sig Unit) (hO : O₀ = O + tallyAt (dcell c' s2) () N)
    {hsc hsrc hdst} {hsem : DmaTarget.Typed sp (.dma s2) (.remote (Dev.tc c' : Thread nD τ) dst (.dma s1) hsc)}
    {k : PUnit → Prog (TpuEff nD τ sig (Elt F) Λ₀ .tc) α} :
    iprop(recs m ∗ owesE (F := F) c O₀ ∗ owns (c : Thread nD τ) src fullShare X ∗ (∃ X, owns (c' : Thread nD τ) dst fullShare X)
        ∗ dutyTok ER (dcell c s1) 0 0 ∗ dutyTok ER (dcell c' s2) 0 0)
      ⊢ iprop(((owesE (F := F) c O ∗ cred (tallyAt (dcell c s1) () N)) -∗ wpb c (k ⟨⟩) Q)
          -∗ wpb c (.op (.enqueueDma src (.remote (Dev.tc c' : Thread nD τ) dst (.dma s1) hsc) (.dma s2) hsrc hdst hsem) k) Q) := by
  unfold owesE
  iintro ⟨#Hr, ⟨%W, HO⟩, Hs, ⟨%X₀, Hd⟩, Ht1, Ht2⟩ Hk
  unfold owns
  icases Hs with ⟨%fs, %hfs, Hs⟩
  icases Hd with ⟨%fd, %hfd, Hd⟩
  ihave Hc := (recs_dma m c s1 hs1) $$ Hr
  icases Hc with ⟨%κ₁, #HI1, #HR1⟩
  ihave Hc := (recs_dma m c' s2 hs2) $$ Hr
  icases Hc with ⟨%κ₂, #HI2, #HR2⟩
  iapply (Rounds.wp_send_pointsTo 𝒱₀ ER (Rd m) (c : Thread nD τ) none (κ₁ := κ₁) (κ₂ := κ₂)
    (r₁ := 0) (r₂ := 0) (d₁ := 0) (d₂ := 0) (fs := fs) (fd := fd) hd1 hd2 () () N hN ha1 ha2 O hO (W := W)
    (BIBase.Entails.trans (by
      unfold owns; iintro H; iexists fs
      isplitr; · ipureintro; exact hfs
      iexact H) hp1)
    (BIBase.Entails.trans (by
      unfold owns; iintro H; iexists (dst.view.write (Elt F) fd (src.view.read (Elt F) fs) Finset.univ)
      isplitr
      · ipureintro; exact (View.read_write_univ _ _).trans hfs
      iexact H) hp2)) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hcr, HO⟩
  iapply Hk
  isplitl [HO]; · iexists W; iexact HO
  iexact Hcr

/-- A local copy, on memrefs owned whole: the semaphore's payload from the destination holding the source's contents and the
    source. -/
theorem copy_gen {α : Type} {Q : α → sProp 𝕄} (c : Dev nD) {sp sp' : Space} {s : Shape} {e : EltTy} (src : Memref sig .tc sp s e) (dst : Memref sig .tc sp' s e) (X : s.Idx → Elt F e)
    (s1 : DmaSem sig) (hs1 : 3 ≤ s1.val) (N : ℕ) (hN : dst.view.dmaCredit = N)
    (hd1 : 0 ∈ (Rd m).duties (dcell c s1) 0) (ha1 : (Rd m).amount (dcell c s1) 0 0 = N)
    (hp : (iprop(owns (c : Thread nD τ) dst fullShare X ∗ owns (c : Thread nD τ) src fullShare X) : sProp 𝕄) ⊢ (Rd m).payload (dcell c s1) 0 0)
    {hsrc hdst} {hsem : DmaTarget.Typed sp (.dma s1) (DmaTarget.here (nD := nD) (p := (Proc.tc : Proc τ)) dst)}
    {k : PUnit → Prog (TpuEff nD τ sig (Elt F) Λ₀ .tc) α} :
    iprop(recs m ∗ owns (c : Thread nD τ) src fullShare X ∗ (∃ X, owns (c : Thread nD τ) dst fullShare X) ∗ dutyTok ER (dcell c s1) 0 0)
      ⊢ iprop((cred (tallyAt (dcell c s1) () N) -∗ wpb c (k ⟨⟩) Q)
          -∗ wpb c (.op (.enqueueDma src (DmaTarget.here (nD := nD) (p := (Proc.tc : Proc τ)) dst) (.dma s1) hsrc hdst hsem) k) Q) := by
  iintro ⟨#Hr, Hs, ⟨%X₀, Hd⟩, Ht1⟩ Hk
  unfold owns
  icases Hs with ⟨%fs, %hfs, Hs⟩
  icases Hd with ⟨%fd, %hfd, Hd⟩
  ihave Hc := (recs_dma m c s1 hs1) $$ Hr
  icases Hc with ⟨%κ₁, #HI1, #HR1⟩
  iapply (Rounds.wp_copy_pointsTo 𝒱₀ ER (Rd m) (c : Thread nD τ) none (κ := κ₁)
    (r := 0) (d := 0) (fs := fs) (fd := fd) hd1 () N hN ha1
    (BIBase.Entails.trans (by
      unfold owns; iintro ⟨Hd, Hs⟩
      isplitl [Hd]
      · iexists (dst.view.write (Elt F) fd (src.view.read (Elt F) fs) Finset.univ)
        isplitr
        · ipureintro; exact (View.read_write_univ _ _).trans hfs
        iexact Hd
      iexists fs
      isplitr; · ipureintro; exact hfs
      iexact Hs) hp)) $$ [Hs Hd Ht1]
  · isplitr; · iexact HI1
    isplitl [Hs]; · iexact Hs
    isplitl [Hd]; · iexact Hd
    isplitl [Ht1]; · iexact Ht1
    iexact HR1
  iintro Hcr
  iapply Hk
  iexact Hcr

/-- The contents of a slot, seen without the leading row. -/
abbrev usq {e : EltTy} (X : S1x512x256.Idx → Elt F e) : S512x256.Idx → Elt F e :=
  fun i => X (Shape.reshapeEquiv squeezes_S1x512x256_S512x256.numel_eq i)

theorem usq_inj {e : EltTy} {X Y : S1x512x256.Idx → Elt F e} (h : usq X = usq Y) : X = Y := by
  funext i
  have := congrFun h ((Shape.reshapeEquiv squeezes_S1x512x256_S512x256.numel_eq).symm i)
  simpa only [usq, Equiv.apply_symm_apply] using this

theorem sq_set {sp : Space} {e : EltTy} (M : Memref sig .tc sp S1x512x256 e) : (sq M).view.set = M.view.set :=
  View.set_reshape _ _

theorem owns_sq (c : Dev nD) {sp : Space} {e : EltTy} (M : Memref sig .tc sp S1x512x256 e) (X : S1x512x256.Idx → Elt F e) :
    (owns (c : Thread nD τ) M fullShare X : sProp 𝕄) ⊢ owns (c : Thread nD τ) (sq M) fullShare (usq X) := by
  unfold owns
  rw [sq_set]
  iintro ⟨%f, %hf, H⟩
  iexists f
  isplitr
  · ipureintro; rw [← hf]; rfl
  iexact H

theorem owns_usq (c : Dev nD) {sp : Space} {e : EltTy} (M : Memref sig .tc sp S1x512x256 e) (X : S1x512x256.Idx → Elt F e) :
    (owns (c : Thread nD τ) (sq M) fullShare (usq X) : sProp 𝕄) ⊢ owns (c : Thread nD τ) M fullShare X := by
  unfold owns
  rw [sq_set]
  iintro ⟨%f, %hf, H⟩
  iexists f
  isplitr
  · ipureintro; exact usq_inj hf
  iexact H

/-- Exchange `r`: the row sent to the partner's landing row. -/
theorem send_row {α : Type} {Q : α → sProp 𝕄} (c : Dev nD) (r : Fin 3) {X : Vec F S1x128 .f32} (hX : X = rowv m r c) {n : Dev nD} (hn : n = px r c)
    {s1 s2 : DmaSem sig} (h1 : s1 = rdS r) (h2 : s2 = rdR r) {o1 o2 : Fin 2 → ℕ} (ho1 : o1 = ![r.val, 0]) (ho2 : o2 = ![r.castSucc.val, 0])
    {i1 : ∀ a, o1 a + S1x128.size a ≤ S3x128.size a} {i2 : ∀ a, o2 a + S1x128.size a ≤ S4x128.size a}
    {O₀ : CellTallies nD τ sig Unit} (O : CellTallies nD τ sig Unit) (hO : O₀ = O + rdOwe c r)
    {hsc hsrc hdst hsem} {k : PUnit → Prog (TpuEff nD τ sig (Elt F) Λ₀ .tc) α} :
    iprop(recs m ∗ owesE (F := F) c O₀ ∗ rdsAt c r X ∗ rdrAny (F := F) (px r c) r.castSucc ∗ dutyTok ER (dcell c (rdS r)) 0 0 ∗ dutyTok ER (dcell (px r c) (rdR r)) 0 0)
      ⊢ iprop(((owesE (F := F) c O ∗ cred (tallyAt (dcell c (rdS r)) () Nr)) -∗ wpb c (k ⟨⟩) Q)
          -∗ wpb c (.op (.enqueueDma (slot rdsM o1 S1x128.size i1) (.remote (Dev.tc n : Thread nD τ) (slot rdrM o2 S1x128.size i2) (.dma s1) hsc)
            (.dma s2) hsrc hdst hsem) k) Q) := by
  subst hn h1 h2 ho1 ho2 hX
  exact send_gen m c (px r c) _ _ _ _ _ (three_rdS r) (three_rdR r) Nr (credit_r _ _) (duty_rdS m c r) (duty_rdR m (px r c) r)
    (amount_at m c _ (roleOf_rdS r) 0) (amount_at m (px r c) _ (roleOf_rdR r) 0)
    (by rw [payload_rdS]; iintro H; iexists _; iexact H)
    (by rw [payload_rdR, px_px]) O hO

/-- The guarded copy of quantised block `b` to device `b`'s landing slot `c`. -/
theorem send_if {α : Type} {Q : α → sProp 𝕄} (c b : Dev nD) {C : Prop} [Decidable C] (hC : C ↔ c ≠ b) {n : C → Dev nD} (hn : ∀ h, n h = b)
    {s1 : DmaSem sig} (h1 : s1 = snd b) {s2 : C → DmaSem sig} (h2 : ∀ h, s2 h = rcv c)
    {o1 : Fin 3 → ℕ} (ho1 : o1 = ![b.val, 0, 0]) {o2 : C → Fin 3 → ℕ} (ho2 : ∀ h, o2 h = ![c.val, 0, 0])
    {i1 : ∀ a, o1 a + S1x512x256.size a ≤ S8x512x256.size a} {i2 : ∀ h, ∀ a, o2 h a + S1x512x256.size a ≤ S8x512x256.size a}
    {O₀ : CellTallies nD τ sig Unit} (O : CellTallies nD τ sig Unit) (hO : O₀ = O + qOwe c b)
    {hsc : ∀ h, (sq (slot qrM (o2 h) S1x512x256.size (i2 h))).view.ref.isScScratch = false} {hsrc : ∀ _ : C, (sq (slot qsM o1 S1x512x256.size i1)).view.WordExact}
    {hdst : ∀ h, (sq (slot qrM (o2 h) S1x512x256.size (i2 h))).view.WordExact}
    {hsem : ∀ h, DmaTarget.Typed .vmem (.dma (s2 h)) (.remote (Dev.tc (n h) : Thread nD τ) (sq (slot qrM (o2 h) S1x512x256.size (i2 h))) (.dma s1) (hsc h))}
    {K : Prog (TpuEff nD τ sig (Elt F) Λ₀ .tc) α} :
    iprop(recs m ∗ owesE (F := F) c O₀ ∗ qsAt c b (qv m c b) ∗ (if c = b then iprop(emp) else qrAny (F := F) b c)
        ∗ dutyTok ER (dcell c (snd b)) 0 0 ∗ dutyTok ER (dcell b (rcv c)) 0 0)
      ⊢ iprop(((owesE (F := F) c O ∗ (if c = b then qsAt c b (qv m c b) else cred (tallyAt (dcell c (snd b)) () Nq))) -∗ wpb c K Q)
          -∗ wpb c (dite C (fun h => .op (.enqueueDma (sq (slot qsM o1 S1x512x256.size i1))
              (.remote (Dev.tc (n h) : Thread nD τ) (sq (slot qrM (o2 h) S1x512x256.size (i2 h))) (.dma s1) (hsc h))
              (.dma (s2 h)) (hsrc h) (hdst h) (hsem h)) fun _ => K) (fun _ => K)) Q) := by
  unfold qOwe at hO
  subst h1 ho1
  by_cases h : C
  · have hcb := hC.mp h
    rw [dif_pos h, if_neg hcb, if_neg hcb]
    rw [if_neg hcb] at hO
    have hn' := hn h
    have h2' := h2 h
    have ho2' := ho2 h
    generalize hsc h = a1
    generalize hdst h = a2
    generalize hsem h = a3
    revert a1 a2 a3
    generalize i2 h = a4
    revert a4
    generalize n h = n' at hn' ⊢
    generalize s2 h = s2' at h2' ⊢
    generalize o2 h = o2' at ho2' ⊢
    subst hn' h2' ho2'
    intro i2 a1 a2 a3
    iintro ⟨Hr, HO, Hs, ⟨%X₀, Hd⟩, Ht1, Ht2⟩ Hk
    ihave Hs := (owns_sq c _ _) $$ Hs
    ihave Hd := (owns_sq n' _ _) $$ Hd
    iapply (send_gen m c n' (sq (slot qsM ![n'.val, 0, 0] S1x512x256.size i1)) (sq (slot qrM ![c.val, 0, 0] S1x512x256.size i2)) (usq (qv m c n')) _ _ (three_snd n') (three_rcv c) Nq (credit_qr _ _) (duty_snd m hcb.symm) (duty_rcv m hcb)
      (amount_at m c _ (roleOf_snd n') 0) (amount_at m n' _ (roleOf_rcv c) 0)
      (by rw [payload_snd]; refine (owns_usq c (slot qsM ![n'.val, 0, 0] S1x512x256.size i1) _).trans ?_; iintro H; iexists _; iexact H)
      (by rw [payload_rcv]; exact owns_usq n' (slot qrM ![c.val, 0, 0] S1x512x256.size i2) _) O hO) $$ [Hr HO Hs Hd Ht1 Ht2]
    · isplitl [Hr]; · iexact Hr
      isplitl [HO]; · iexact HO
      isplitl [Hs]; · iexact Hs
      isplitl [Hd]; · iexists _; iexact Hd
      isplitl [Ht1]; · iexact Ht1
      iexact Ht2
    iexact Hk
  · have hcb : c = b := not_not.mp fun h' => h (hC.mpr h')
    rw [dif_neg h, if_pos hcb, if_pos hcb]
    rw [if_pos hcb, add_zero] at hO
    subst hO
    iintro ⟨-, HO, Hs, -, -, -⟩ Hk
    iapply Hk
    isplitl [HO]; · iexact HO
    iexact Hs

/-- The copy of the staged result block `t` into the result. -/
theorem copy_out {α : Type} {Q : α → sProp 𝕄} (c t : Dev nD) {X : Vec F S1x512x256 .f32} (hX : X = ov m c t)
    {s1 : DmaSem sig} (h1 : s1 = out t) {o1 : Fin 3 → ℕ} (ho1 : o1 = ![t.val, 0, 0]) {o2 : Fin 2 → ℕ} (ho2 : o2 = ![512 * t.val, 0])
    {i1 : ∀ a, o1 a + S1x512x256.size a ≤ S8x512x256.size a} {i2 : ∀ a, o2 a + S512x256.size a ≤ S4096x256.size a}
    {hsrc hdst} {hsem : DmaTarget.Typed .vmem (.dma s1) (DmaTarget.here (nD := nD) (p := (Proc.tc : Proc τ)) (slot v1M o2 S512x256.size i2))}
    {k : PUnit → Prog (TpuEff nD τ sig (Elt F) Λ₀ .tc) α} :
    iprop(recs m ∗ osAt c t X ∗ v1Any (F := F) c t ∗ dutyTok ER (dcell c (out t)) 0 0)
      ⊢ iprop((cred (tallyAt (dcell c (out t)) () No) -∗ wpb c (k ⟨⟩) Q)
          -∗ wpb c (.op (.enqueueDma (sq (slot osM o1 S1x512x256.size i1)) (DmaTarget.here (nD := nD) (p := (Proc.tc : Proc τ)) (slot v1M o2 S512x256.size i2))
            (.dma s1) hsrc hdst hsem) k) Q) := by
  subst h1 ho1 ho2 hX
  iintro ⟨Hr, Hs, Hd, Ht⟩
  ihave Hs := (owns_sq c _ _) $$ Hs
  iapply (copy_gen m c _ (slot v1M ![512 * t.val, 0] S512x256.size i2) (usq (ov m c t)) _ (three_out t) No (credit_v _ _) (duty_out m c t)
    (amount_at m c _ (roleOf_out t) 0)
    (by
      rw [payload_out]
      refine (sep_mono_right (owns_usq c _ _)).trans ?_
      iintro ⟨Hd, Hs⟩
      isplitl [Hd]; · iexact Hd
      iexists _; iexact Hs))
  isplitl [Hr]; · iexact Hr
  isplitl [Hs]; · iexact Hs
  isplitl [Hd]; · iexact Hd
  iexact Ht

/-- The guarded wait for the block of device `t`, its dequantisation into the staging slot and the start of the copy into
    the result; nothing on `t = c`, whose own block was dealt with before. -/
theorem recv_if {α : Type} {Q : α → sProp 𝕄} (c t : Dev nD) {C : Prop} [Decidable C] (hC : C ↔ c ≠ t)
    {P : Vec F S1x512x256 .fp8e4m3 → Vec F S1x512x256 .f32} (hP : ∀ q, P q = k0_pay22 (scl m c) q)
    {s1 s2 : DmaSem sig} (h1 : s1 = rcv t) (h2 : s2 = out t)
    {o : Fin 3 → ℕ} (ho : o = ![t.val, 0, 0]) {o' : Fin 2 → ℕ} (ho' : o' = ![512 * t.val, 0])
    {i i1 i2 i3 i4 i5 : ∀ a, o a + S1x512x256.size a ≤ S8x512x256.size a} {i' : ∀ a, o' a + S512x256.size a ≤ S4096x256.size a}
    {w1 w2} {hl1 : qrM.view.LoadsAt (Rect.unit (s := S8x512x256) o S1x512x256.size i2).toLoadRect} {hl2 : osM.view.LoadsAt (Rect.unit (s := S8x512x256) o S1x512x256.size i3).toLoadRect}
    {hx hm} {w3 w4} {hsem : DmaTarget.Typed .vmem (.dma s2) (DmaTarget.here (nD := nD) (p := (Proc.tc : Proc τ)) (slot v1M o' S512x256.size i'))}
    {K : Prog (TpuEff nD τ sig (Elt F) Λ₀ .tc) α} :
    iprop(recs m ∗ owesE (F := F) c 0 ∗ atPos ER (dcell c (rcv t)) 0 ∅ 0
        ∗ (if c = t then iprop(emp) else iprop(cred (tallyAt (dcell c (rcv t)) () Nq) ∗ dutyTok ER (dcell c (out t)) 0 0 ∗ osAny (F := F) c t ∗ v1Any (F := F) c t)))
      ⊢ iprop(((owesE (F := F) c 0 ∗ semVal (dcell c (rcv t)) 0
            ∗ (if c = t then iprop(emp) else iprop(qrAny (F := F) c t ∗ cred (tallyAt (dcell c (out t)) () No)))) -∗ wpb c K Q)
          -∗ wpb c (dite C (fun _ => .op (.waitDma2 s1 (sq (slot qsM o S1x512x256.size i)) (sq (slot qrM o S1x512x256.size i1)) w1 w2) fun _ =>
              .op (.load qrM (Rect.unit (s := S8x512x256) o S1x512x256.size i2).toLoadRect hl1) fun q =>
              .op (.load osM (Rect.unit (s := S8x512x256) o S1x512x256.size i3).toLoadRect hl2) fun _ =>
              .op (.store osM (Rect.unit (s := S8x512x256) o S1x512x256.size i4) (P q) Finset.univ hx hm) fun _ =>
              .op (.enqueueDma (sq (slot osM o S1x512x256.size i5)) (DmaTarget.here (nD := nD) (p := (Proc.tc : Proc τ)) (slot v1M o' S512x256.size i'))
                (.dma s2) w3 w4 hsem) fun _ => K) (fun _ => K)) Q) := by
  by_cases h : C
  · have hct := hC.mp h
    rw [dif_pos h, if_neg hct, if_neg hct]
    subst h1 h2 ho ho'
    iintro ⟨#Hr, HO, Hat, Hcr, Htok, ⟨%X₀, Hs⟩, Hv⟩ Hk
    iapply (wait_dma m c (rcv t) (three_rcv t) (roleOf_rcv t) (show dutiesOf (.rcv t) c = {0} from if_neg (Ne.symm hct)) (O := 0) 5 (le_refl 5)
      (fun g u h => absurd h (Nat.lt_irrefl 0)) rfl (credit_qr _ _)) $$ [HO Hcr Hat]
    · isplitr; · iexact Hr
      isplitl [HO]; · iexact HO
      isplitl [Hcr]; · iexact Hcr
      iexact Hat
    iintro ⟨HO, Hz, Hp⟩
    ihave Hp := (show payOf m (.rcv t) c 0 ⊢ qrAt c t (qv m t c) from Entails.of_eq rfl) $$ Hp
    iapply (load_at c rfl) $$ Hp
    iintro Hp
    iapply (load_at c rfl) $$ Hs
    iintro Hs
    iapply (store_at c rfl) $$ Hs
    iintro Hs
    iapply (copy_out m c t (show P (qv m t c) = ov m c t by rw [hP]; exact (if_neg (Ne.symm hct)).symm) rfl rfl rfl) $$ [Hs Hv Htok]
    · isplitr; · iexact Hr
      isplitl [Hs]; · iexact Hs
      isplitl [Hv]; · iexact Hv
      iexact Htok
    iintro Hc
    iapply Hk
    isplitl [HO]; · iexact HO
    isplitl [Hz]; · iexact Hz
    isplitl [Hp]; · iexists _; iexact Hp
    iexact Hc
  · have hct : c = t := not_not.mp fun h' => h (hC.mpr h')
    rw [dif_neg h, if_pos hct, if_pos hct]
    iintro ⟨#Hr, HO, Hat, -⟩ Hk
    imod (close_idle m c (rcv t) (three_rcv t) (roleOf_rcv t) (show dutiesOf (.rcv t) c = ∅ from if_pos hct.symm)) $$ [Hat] with Hz
    · isplitr; · iexact Hr
      iexact Hat
    iapply Hk
    isplitl [HO]; · iexact HO
    isplitl [Hz]; · iexact Hz
    iempintro

/-- The guarded wait for the slot sent to device `b` to be free again. -/
theorem snd_wait_if {α : Type} {Q : α → sProp 𝕄} (c b : Dev nD) {C : Prop} [Decidable C] (hC : C ↔ c ≠ b)
    {s1 : DmaSem sig} (h1 : s1 = snd b) {sp sp' : Space} {s s' : Shape} {e e' : EltTy} {src : Memref sig .tc sp s e} {dst : Memref sig .tc sp' s' e'}
    (hN : dst.view.dmaCredit = Nq) {w1 w2} {K : Prog (TpuEff nD τ sig (Elt F) Λ₀ .tc) α} :
    iprop(recs m ∗ owesE (F := F) c 0 ∗ atPos ER (dcell c (snd b)) 0 ∅ 0
        ∗ (if c = b then qsAt c b (qv m c b) else cred (tallyAt (dcell c (snd b)) () Nq)))
      ⊢ iprop(((owesE (F := F) c 0 ∗ semVal (dcell c (snd b)) 0 ∗ qsAny (F := F) c b) -∗ wpb c K Q)
          -∗ wpb c (dite C (fun _ => .op (.waitDma2 s1 src dst w1 w2) fun _ => K) (fun _ => K)) Q) := by
  by_cases h : C
  · have hcb := hC.mp h
    rw [dif_pos h, if_neg hcb]
    subst h1
    iintro ⟨#Hr, HO, Hat, Hcr⟩ Hk
    iapply (wait_dma m c (snd b) (three_snd b) (roleOf_snd b) (show dutiesOf (.snd b) c = {0} from if_neg (Ne.symm hcb)) (O := 0) 0 (le_refl 0)
      (fun g u h => absurd h (Nat.lt_irrefl 0)) rfl hN) $$ [HO Hcr Hat]
    · isplitr; · iexact Hr
      isplitl [HO]; · iexact HO
      isplitl [Hcr]; · iexact Hcr
      iexact Hat
    iintro ⟨HO, Hz, Hp⟩
    ihave Hp := (show payOf m (.snd b) c 0 ⊢ qsAny (F := F) c b from Entails.of_eq rfl) $$ Hp
    iapply Hk
    isplitl [HO]; · iexact HO
    isplitl [Hz]; · iexact Hz
    iexact Hp
  · have hcb : c = b := not_not.mp fun h' => h (hC.mpr h')
    rw [dif_neg h, if_pos hcb]
    iintro ⟨#Hr, HO, Hat, Hs⟩ Hk
    imod (close_idle m c (snd b) (three_snd b) (roleOf_snd b) (show dutiesOf (.snd b) c = ∅ from if_pos hcb.symm)) $$ [Hat] with Hz
    · isplitr; · iexact Hr
      iexact Hat
    iapply Hk
    isplitl [HO]; · iexact HO
    isplitl [Hz]; · iexact Hz
    iexists _; iexact Hs

end Cert.KernelIdealProof

end
-- ==== Proof.Parts.lean ====
/-
# The ninth point of the grid, part by part

The kernel's last point is printed in nine parts. Each theorem says what one part needs and what it leaves, for a device
`c`: the meeting on the barrier and the first exchange, the second, the third with the scale, the quantised blocks sent,
the device's own block, the blocks received, and the waits that close.
-/
module

public import proofs.«01_k».proof.Proof.Steps

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What belongs to one block, before and after each stage -/

/-- Block `b` before it is quantised: the send slot, the receiver's landing slot (none for the own block), both tokens. -/
def sP (c b : Dev nD) : sProp 𝕄 :=
  iprop(qsAny (F := F) c b ∗ (if c = b then iprop(emp) else qrAny (F := F) b c) ∗ dutyTok ER (dcell c (snd b)) 0 0 ∗ dutyTok ER (dcell b (rcv c)) 0 0)
/-- The same once the slot holds the quantised block. -/
def sQ (c b : Dev nD) : sProp 𝕄 :=
  iprop(qsAt c b (qv m c b) ∗ (if c = b then iprop(emp) else qrAny (F := F) b c) ∗ dutyTok ER (dcell c (snd b)) 0 0 ∗ dutyTok ER (dcell b (rcv c)) 0 0)
/-- Once sent: the credit for the wait, or the own block still in its slot. -/
def sD (c b : Dev nD) : sProp 𝕄 := if c = b then qsAt c b (qv m c b) else cred (tallyAt (dcell c (snd b)) () Nq)
/-- The block from device `t` before and after it is received. -/
def rP (c t : Dev nD) : sProp 𝕄 :=
  iprop(atPos ER (dcell c (rcv t)) 0 ∅ 0
    ∗ (if c = t then iprop(emp) else iprop(cred (tallyAt (dcell c (rcv t)) () Nq) ∗ dutyTok ER (dcell c (out t)) 0 0 ∗ osAny (F := F) c t ∗ v1Any (F := F) c t)))
def rD (c t : Dev nD) : sProp 𝕄 :=
  iprop(semVal (dcell c (rcv t)) 0 ∗ (if c = t then iprop(emp) else iprop(qrAny (F := F) c t ∗ cred (tallyAt (dcell c (out t)) () No))))
/-- The send side of block `b` at the end. -/
def wD (c b : Dev nD) : sProp 𝕄 := iprop(semVal (dcell c (snd b)) 0 ∗ qsAny (F := F) c b)
/-- The copy of result block `t`, before and after its wait. -/
def oP (c t : Dev nD) : sProp 𝕄 := iprop(atPos ER (dcell c (out t)) 0 ∅ 0 ∗ cred (tallyAt (dcell c (out t)) () No))
def oD (c t : Dev nD) : sProp 𝕄 := iprop(semVal (dcell c (out t)) 0 ∗ v1At c t (rv m c t) ∗ osAny (F := F) c t)
/-- The send side of exchange `r`, before and after its wait. -/
def xP (c : Dev nD) (r : Fin 3) : sProp 𝕄 := iprop(atPos ER (dcell c (rdS r)) 0 ∅ 0 ∗ cred (tallyAt (dcell c (rdS r)) () Nr))
def xD (c : Dev nD) (r : Fin 3) : sProp 𝕄 := iprop(semVal (dcell c (rdS r)) 0 ∗ rdsAny (F := F) c r)

/-! ## The steps on these -/

/-- Column block `b` is quantised into its send slot. -/
theorem quant {α : Type} {Q : α → sProp 𝕄} (c b : Dev nD) {P : Vec F S512x256 .f32 → Vec F S1x512x256 .fp8e4m3} (hP : P (yv m c b) = qv m c b)
    {o : Fin 2 → ℕ} (ho : o = ![0, 256 * b.val]) {o' : Fin 3 → ℕ} (ho' : o' = ![b.val, 0, 0])
    {i : ∀ a, o a + S512x256.size a ≤ S512x2048.size a} {i1 i2 : ∀ a, o' a + S1x512x256.size a ≤ S8x512x256.size a}
    {hl1 : yM.view.LoadsAt (Rect.unit (s := S512x2048) o S512x256.size i).toLoadRect} {hl2 : qsM.view.LoadsAt (Rect.unit (s := S8x512x256) o' S1x512x256.size i1).toLoadRect}
    {hx hm} {k : PUnit → Prog (TpuEff nD τ sig (Elt F) Λ₀ .tc) α} :
    iprop(yAt c b (yv m c b) ∗ sP (F := F) c b)
      ⊢ iprop(((yAt c b (yv m c b) ∗ sQ m c b) -∗ wpb c (k ⟨⟩) Q)
          -∗ wpb c (.op (.load yM (Rect.unit (s := S512x2048) o S512x256.size i).toLoadRect hl1) fun y =>
            .op (.load qsM (Rect.unit (s := S8x512x256) o' S1x512x256.size i1).toLoadRect hl2) fun _ =>
            .op (.store qsM (Rect.unit (s := S8x512x256) o' S1x512x256.size i2) (P y) Finset.univ hx hm) k) Q) := by
  subst ho ho'
  unfold sP sQ
  iintro ⟨Hy, ⟨%X, Hs⟩, Hq, Ht1, Ht2⟩ Hk
  iapply (load_at c rfl) $$ Hy
  iintro Hy
  iapply (load_at c rfl) $$ Hs
  iintro Hs
  iapply (store_at c rfl) $$ Hs
  iintro Hs
  rw [hP]
  iapply Hk
  iframe

/-- The wait for the copy of result block `t`. -/
theorem out_wait {α : Type} {Q : α → sProp 𝕄} (c t : Dev nD) {s1 : DmaSem sig} (h1 : s1 = out t) {sp sp' : Space} {s s' : Shape} {e e' : EltTy}
    {src : Memref sig .tc sp s e} {dst : Memref sig .tc sp' s' e'} (hN : dst.view.dmaCredit = No) {w1 w2} {k : PUnit → Prog (TpuEff nD τ sig (Elt F) Λ₀ .tc) α} :
    iprop(recs m ∗ owesE (F := F) c 0 ∗ oP (F := F) c t)
      ⊢ iprop(((owesE (F := F) c 0 ∗ oD m c t) -∗ wpb c (k ⟨⟩) Q) -∗ wpb c (.op (.waitDma2 s1 src dst w1 w2) k) Q) := by
  unfold oP oD
  iintro ⟨#Hr, HO, Hat, Hcr⟩ Hk
  iapply (wait_dma m c (out t) (three_out t) (roleOf_out t) (show dutiesOf (.out t) c = {0} from rfl) (O := 0) 0 (le_refl 0)
    (fun g u h => absurd h (Nat.lt_irrefl 0)) h1 hN) $$ [HO Hat Hcr]
  · isplitr; · iexact Hr
    isplitl [HO]; · iexact HO
    isplitl [Hcr]; · iexact Hcr
    iexact Hat
  iintro ⟨HO, Hz, Hp⟩
  ihave Hp := (show payOf m (.out t) c 0 ⊢ iprop(v1At c t (rv m c t) ∗ osAny (F := F) c t) from Entails.of_eq rfl) $$ Hp
  iapply Hk
  iframe

/-- The wait for the row sent in exchange `r`. -/
theorem rds_wait {α : Type} {Q : α → sProp 𝕄} (c : Dev nD) (r : Fin 3) {s1 : DmaSem sig} (h1 : s1 = rdS r) {sp sp' : Space} {s s' : Shape} {e e' : EltTy}
    {src : Memref sig .tc sp s e} {dst : Memref sig .tc sp' s' e'} (hN : dst.view.dmaCredit = Nr) {w1 w2} {k : PUnit → Prog (TpuEff nD τ sig (Elt F) Λ₀ .tc) α} :
    iprop(recs m ∗ owesE (F := F) c 0 ∗ xP (F := F) c r)
      ⊢ iprop(((owesE (F := F) c 0 ∗ xD (F := F) c r) -∗ wpb c (k ⟨⟩) Q) -∗ wpb c (.op (.waitDma2 s1 src dst w1 w2) k) Q) := by
  unfold xP xD
  iintro ⟨#Hr, HO, Hat, Hcr⟩ Hk
  iapply (wait_dma m c (rdS r) (three_rdS r) (roleOf_rdS r) (show dutiesOf (.rdS r) c = {0} from rfl) (O := 0) 0 (le_refl 0)
    (fun g u h => absurd h (Nat.lt_irrefl 0)) h1 hN) $$ [HO Hat Hcr]
  · isplitr; · iexact Hr
    isplitl [HO]; · iexact HO
    isplitl [Hcr]; · iexact Hcr
    iexact Hat
  iintro ⟨HO, Hz, Hp⟩
  ihave Hp := (show payOf m (.rdS r) c 0 ⊢ rdsAny (F := F) c r from Entails.of_eq rfl) $$ Hp
  iapply Hk
  iframe

/-- The wait for the partner's row in exchange `r`, while `k` rows are still owed. -/
theorem rdr_wait {α : Type} {Q : α → sProp 𝕄} (c : Dev nD) (r : Fin 3) (n : ℕ) (hn : n + r.val = 2) {s1 : DmaSem sig} (h1 : s1 = rdR r) {sp sp' : Space} {s s' : Shape} {e e' : EltTy}
    {src : Memref sig .tc sp s e} {dst : Memref sig .tc sp' s' e'} (hN : dst.view.dmaCredit = Nr) {w1 w2} {k : PUnit → Prog (TpuEff nD τ sig (Elt F) Λ₀ .tc) α} :
    iprop(recs m ∗ owesE (F := F) c (OR c n) ∗ cred (tallyAt (dcell c (rdR r)) () Nr) ∗ atPos ER (dcell c (rdR r)) 0 ∅ 0)
      ⊢ iprop(((owesE (F := F) c (OR c n) ∗ semVal (dcell c (rdR r)) 0 ∗ rdrAt c r.castSucc (rowv m r (px r c))) -∗ wpb c (k ⟨⟩) Q)
        -∗ wpb c (.op (.waitDma2 s1 src dst w1 w2) k) Q) :=
  wait_dma m c (rdR r) (three_rdR r) (roleOf_rdR r) (show dutiesOf (.rdR r) c = {0} from rfl) (O := OR c n) (2 + r.val) (le_refl _)
    (fun g u h => by have := OR_pos c n (by omega) h; exact ⟨this.1, by omega⟩) h1 hN

/-! ## Semaphores, devices and conditions as the kernel computes them -/

theorem inb_8 (b : Dev nD) : ∀ a, (![b.val] : Fin 1 → ℕ) a + S1.size a ≤ S8.size a := by revert b; decide
theorem inb_3 (r : Fin 3) : ∀ a, (![r.val] : Fin 1 → ℕ) a + S1.size a ≤ S3.size a := by revert r; decide
theorem sem_snd_at : ∀ b : Dev nD, ((cc0_scratch9.slice (Rect.unit (s := S8) ![b.val] S1.size (inb_8 b))).squeeze S_ squeezes_S1_S_).sem = snd b := by decide
theorem sem_snd (b : Dev nD) {o : Fin 1 → ℕ} (ho : o = ![b.val]) {i : ∀ a, o a + S1.size a ≤ S8.size a} :
    ((cc0_scratch9.slice (Rect.unit (s := S8) o S1.size i)).squeeze S_ squeezes_S1_S_).sem = snd b := by
  subst ho; exact sem_snd_at b
theorem sem_rcv_at : ∀ b : Dev nD, ((cc0_scratch10.slice (Rect.unit (s := S8) ![b.val] S1.size (inb_8 b))).squeeze S_ squeezes_S1_S_).sem = rcv b := by decide
theorem sem_rcv (b : Dev nD) {o : Fin 1 → ℕ} (ho : o = ![b.val]) {i : ∀ a, o a + S1.size a ≤ S8.size a} :
    ((cc0_scratch10.slice (Rect.unit (s := S8) o S1.size i)).squeeze S_ squeezes_S1_S_).sem = rcv b := by
  subst ho; exact sem_rcv_at b
theorem sem_out_at : ∀ b : Dev nD, ((cc0_scratch11.slice (Rect.unit (s := S8) ![b.val] S1.size (inb_8 b))).squeeze S_ squeezes_S1_S_).sem = out b := by decide
theorem sem_out (b : Dev nD) {o : Fin 1 → ℕ} (ho : o = ![b.val]) {i : ∀ a, o a + S1.size a ≤ S8.size a} :
    ((cc0_scratch11.slice (Rect.unit (s := S8) o S1.size i)).squeeze S_ squeezes_S1_S_).sem = out b := by
  subst ho; exact sem_out_at b
theorem sem_rdS_at : ∀ r : Fin 3, ((cc0_scratch7.slice (Rect.unit (s := S3) ![r.val] S1.size (inb_3 r))).squeeze S_ squeezes_S1_S_).sem = rdS r := by decide
theorem sem_rdS (r : Fin 3) {o : Fin 1 → ℕ} (ho : o = ![r.val]) {i : ∀ a, o a + S1.size a ≤ S3.size a} :
    ((cc0_scratch7.slice (Rect.unit (s := S3) o S1.size i)).squeeze S_ squeezes_S1_S_).sem = rdS r := by
  subst ho; exact sem_rdS_at r
theorem sem_rdR_at : ∀ r : Fin 3, ((cc0_scratch8.slice (Rect.unit (s := S3) ![r.val] S1.size (inb_3 r))).squeeze S_ squeezes_S1_S_).sem = rdR r := by decide
theorem sem_rdR (r : Fin 3) {o : Fin 1 → ℕ} (ho : o = ![r.val]) {i : ∀ a, o a + S1.size a ≤ S3.size a} :
    ((cc0_scratch8.slice (Rect.unit (s := S3) o S1.size i)).squeeze S_ squeezes_S1_S_).sem = rdR r := by
  subst ho; exact sem_rdR_at r

/-- The device's index as the kernel computes it from its number. -/
abbrev meW (c : Dev nD) : BitVec 32 := Scalar.remsi (Scalar.divsi (Dev.word c) 1#32) 8#32

/-- The test `me ≠ b` as the kernel computes it. -/
abbrev neW (c : Dev nD) (k : BitVec 32) : BitVec 1 := Scalar.cmpi .ne (Scalar.extui (Scalar.cmpi .ne (meW c) k) : BitVec 32) 0#32

theorem ne_iff (c b : Dev nD) : neW c (BitVec.ofNat 32 b.val) = 1#1 ↔ c ≠ b := by revert c b; decide

theorem dev9_val : ∀ c : Dev nD, k0_dev9 c = (px 0 c).val := by decide
theorem dev9_eq (c : Dev nD) {h : k0_dev9 c < nD} : (⟨k0_dev9 c, h⟩ : Dev nD) = px 0 c := Fin.ext (dev9_val c)
theorem dev10_val : ∀ c : Dev nD, k0_dev10 c = (px 1 c).val := by decide
theorem dev10_eq (c : Dev nD) {h : k0_dev10 c < nD} : (⟨k0_dev10 c, h⟩ : Dev nD) = px 1 c := Fin.ext (dev10_val c)
theorem dev11_val : ∀ c : Dev nD, k0_dev11 c = (px 2 c).val := by decide
theorem dev11_eq (c : Dev nD) {h : k0_dev11 c < nD} : (⟨k0_dev11 c, h⟩ : Dev nD) = px 2 c := Fin.ext (dev11_val c)

/-! ## What the barrier brings -/

theorem bigSep_dev (Φ : Dev nD → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

/-- A family over the other devices, as one over all devices with nothing at `c`. -/
theorem bigSep_others (c : Dev nD) (Φ : Dev nD → sProp 𝕄) :
    bigSep (Finset.univ.erase c) Φ = bigSep Finset.univ fun b => if c = b then iprop(emp) else Φ b := by
  rw [bigSep_erase (Finset.mem_univ c) (Φ := fun b => if c = b then iprop(emp) else Φ b), if_pos rfl]
  refine Eq.trans ?_ (BI.equiv_iff.mp (BI.emp_sep (P := _))).symm
  exact bigSep_congr fun b hb => (if_neg (Finset.ne_of_mem_erase hb).symm).symm

theorem rowPay_elim (c : Dev nD) (r : Fin 3) : bigSep (Finset.univ.erase c) (rowPay (F := F) r c) ⊢ rdrAny (F := F) (px r c) r.castSucc := by
  refine (bigSep_elim (Finset.mem_erase.mpr ⟨px_ne r c, Finset.mem_univ _⟩)).trans ?_
  unfold rowPay
  rw [if_pos (px_px r c)]; exact Idealize.SL.BI.Entails.refl _

/-- The units of the other devices bring their landing slots for `c`'s blocks and the partners' landing rows. -/
theorem bar_split (c : Dev nD) :
    bigSep (Finset.univ.erase c) (barPay (F := F) c)
      ⊢ iprop((bigSep Finset.univ fun b => if c = b then iprop(emp) else qrAny (F := F) b c)
        ∗ rdrAny (F := F) (px 0 c) (0 : Fin 3).castSucc ∗ rdrAny (F := F) (px 1 c) (1 : Fin 3).castSucc ∗ rdrAny (F := F) (px 2 c) (2 : Fin 3).castSucc) := by
  rw [show (fun b => if c = b then iprop(emp) else qrAny (F := F) b c) = (fun b => if c = b then iprop(emp) else (fun b => qrAny (F := F) b c) b) from rfl,
    ← bigSep_others c (fun b => qrAny (F := F) b c)]
  unfold barPay
  rw [bigSep_sep', bigSep_sep', bigSep_sep']
  iintro ⟨Hq, H0, H1, H2⟩
  ihave H0 := (rowPay_elim (F := F) c 0) $$ H0
  ihave H1 := (rowPay_elim (F := F) c 1) $$ H1
  ihave H2 := (rowPay_elim (F := F) c 2) $$ H2
  iframe

/-! ## The parts -/

theorem run1_eq (c : Dev nD) : k0_pay7 (amv m c 7) (rowv m 0 (px 0 c)) = run1 m c := rfl
theorem run2_eq (c : Dev nD) : k0_pay9 (run1 m c) (rowv m 1 (px 1 c)) = run2 m c := rfl
theorem scl_eq (c : Dev nD) : k0_pay11 (run2 m c) (rowv m 2 (px 2 c)) = scl m c := rfl
theorem isc_eq (c : Dev nD) : k0_pay12 (run2 m c) (rowv m 2 (px 2 c)) = isc m c := rfl

theorem wpb_ret {α : Type} {Q : α → sProp 𝕄} (c : Dev nD) (a : α) : Q a ⊢ wpb c (.ret a) Q := by
  show _ ⊢ wp _ _ _ _ _
  rw [wp_ret]; exact fupd_intro

/-- The meeting on the barrier and the first exchange. -/
theorem part1_wp (c : Dev nD) (i : grid0.Coords) {a1 : Memref sig .tc .vmem S512x4096 .f32} {h1 : a1.IsWhole} {a2 : Memref sig .tc .vmem S4096x256 .f32} {h2 : a2.IsWhole} {v2 : BitVec 32} {h13 : k0_cond13 i = 1#1}
    {Q : (Σ' (v33 : FVec F S1x128 .f32), BitVec 32) → sProp 𝕄} :
    iprop(recs m ∗ owesE (F := F) c (OR c 3) ∗ cred (tallyAt (barCell c) () 7) ∗ atPos ER (barCell c) 0 ∅ 0 ∗ amAt c (amv m c 7) ∗ rdsAny (F := F) c 0 ∗ rdsAny (F := F) c 1 ∗ dutyTok ER (dcell c (rdS 0)) 0 0 ∗ dutyTok ER (dcell (px 0 c) (rdR 0)) 0 0 ∗ cred (tallyAt (dcell c (rdR 0)) () Nr) ∗ atPos ER (dcell c (rdR 0)) 0 ∅ 0)
      ⊢ iprop(((owesE (F := F) c (OR c 2) ∗ semVal (barCell c) 0 ∗ amAt c (amv m c 7) ∗ rdsAt c 1 (row1 m c) ∗ cred (tallyAt (dcell c (rdS 0)) () Nr) ∗ semVal (dcell c (rdR 0)) 0 ∗ rdrAt c (0 : Fin 3).castSucc (row0 m (px 0 c)) ∗ (bigSep Finset.univ fun b => if c = b then iprop(emp) else qrAny (F := F) b c) ∗ rdrAny (F := F) (px 1 c) (1 : Fin 3).castSucc ∗ rdrAny (F := F) (px 2 c) (2 : Fin 3).castSucc) -∗ Q ⟨run1 m c, Scalar.xori v2 2#32⟩)
        -∗ wpb c (k0_part1 (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11 c v2 h13) Q) := by
  simp only [k0_part1_eq_skeleton]; unfold k0_part1_skel
  simp -zeta only [semSignalWord, semWaitWord, Prog.lift, Prog.bind_op, Prog.bind_ret, Prog.pure_eq_ret, wp_deviceId]
  iintro ⟨#Hr, HO, CB, AB, AM, RS0, RS1, TS0, TR0, CR0, AR0⟩ Hk
  iapply (wait_bar m c rfl) $$ [$Hr $HO $CB $AB]
  iintro ⟨HO, ZB, HB⟩
  ihave HB := (bar_split (F := F) c) $$ HB
  icases HB with ⟨HQ, N0, N1, N2⟩
  iapply (load_at c rfl) $$ AM
  iintro AM
  icases RS0 with ⟨%X0, RS0⟩
  iapply (load_at c rfl) $$ RS0
  iintro RS0
  iapply (store_at c rfl) $$ RS0
  iintro RS0
  iapply (send_row m c 0 (X := row0 m c) rfl (dev9_eq c) (sem_rdS 0 rfl) (sem_rdR 0 rfl) rfl rfl (OR c 2) rfl) $$ [$Hr $HO $RS0 $N0 $TS0 $TR0]
  iintro ⟨HO, CS0⟩
  iapply (rdr_wait m c 0 2 rfl (sem_rdR 0 rfl) (credit_r _ _)) $$ [$Hr $HO $CR0 $AR0]
  iintro ⟨HO, ZR0, RR0⟩
  iapply (load_at c rfl) $$ RR0
  iintro RR0
  icases RS1 with ⟨%X1, RS1⟩
  iapply (load_at c rfl) $$ RS1
  iintro RS1
  iapply (store_at c rfl) $$ RS1
  iintro RS1
  rw [run1_eq]
  iapply (wpb_ret c ⟨run1 m c, Scalar.xori v2 2#32⟩)
  iapply Hk
  iframe AM CS0 HO HQ N1 N2 RR0 RS1 ZB ZR0

/-- The second exchange, and the row of the third sent. -/
theorem part2_wp (c : Dev nD) (i : grid0.Coords) {a1 : Memref sig .tc .vmem S512x4096 .f32} {h1 : a1.IsWhole} {a2 : Memref sig .tc .vmem S4096x256 .f32} {h2 : a2.IsWhole} {v2 : BitVec 32} {h13 : k0_cond13 i = 1#1} {w : BitVec 32}
    {Q : (Σ' (v53 : FVec F S1x128 .f32), BitVec 32) → sProp 𝕄} :
    iprop(recs m ∗ owesE (F := F) c (OR c 2) ∗ rdsAt c 1 (row1 m c) ∗ rdrAny (F := F) (px 1 c) (1 : Fin 3).castSucc ∗ rdrAny (F := F) (px 2 c) (2 : Fin 3).castSucc ∗ rdsAny (F := F) c 2 ∗ dutyTok ER (dcell c (rdS 1)) 0 0 ∗ dutyTok ER (dcell (px 1 c) (rdR 1)) 0 0 ∗ cred (tallyAt (dcell c (rdR 1)) () Nr) ∗ atPos ER (dcell c (rdR 1)) 0 ∅ 0 ∗ dutyTok ER (dcell c (rdS 2)) 0 0 ∗ dutyTok ER (dcell (px 2 c) (rdR 2)) 0 0)
      ⊢ iprop(((owesE (F := F) c (OR c 0) ∗ cred (tallyAt (dcell c (rdS 1)) () Nr) ∗ semVal (dcell c (rdR 1)) 0 ∗ rdrAt c (1 : Fin 3).castSucc (row1 m (px 1 c)) ∗ cred (tallyAt (dcell c (rdS 2)) () Nr)) -∗ Q ⟨run2 m c, Scalar.xori v2 4#32⟩)
        -∗ wpb c (k0_part2 (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11 c v2 h13 (run1 m c) w) Q) := by
  simp only [k0_part2_eq_skeleton]; unfold k0_part2_skel
  simp -zeta only [semSignalWord, semWaitWord, Prog.lift, Prog.bind_op, Prog.bind_ret, Prog.pure_eq_ret, wp_deviceId]
  iintro ⟨#Hr, HO, RS1, N1, N2, RS2, TS1, TR1, CR1, AR1, TS2, TR2⟩ Hk
  iapply (send_row m c 1 (X := row1 m c) rfl (dev10_eq c) (sem_rdS 1 rfl) (sem_rdR 1 rfl) rfl rfl (OR c 1) rfl) $$ [$Hr $HO $RS1 $N1 $TS1 $TR1]
  iintro ⟨HO, CS1⟩
  iapply (rdr_wait m c 1 1 rfl (sem_rdR 1 rfl) (credit_r _ _)) $$ [$Hr $HO $CR1 $AR1]
  iintro ⟨HO, ZR1, RR1⟩
  iapply (load_at c rfl) $$ RR1
  iintro RR1
  icases RS2 with ⟨%X2, RS2⟩
  iapply (load_at c rfl) $$ RS2
  iintro RS2
  iapply (store_at c rfl) $$ RS2
  iintro RS2
  iapply (send_row m c 2 (X := row2 m c) rfl (dev11_eq c) (sem_rdS 2 rfl) (sem_rdR 2 rfl) rfl rfl (OR c 0) rfl) $$ [$Hr $HO $RS2 $N2 $TS2 $TR2]
  iintro ⟨HO, CS2⟩
  rw [run2_eq]
  iapply (wpb_ret c ⟨run2 m c, Scalar.xori v2 4#32⟩)
  iapply Hk
  iframe CS1 CS2 HO RR1 ZR1

/-- `send_if` on the bundles. -/
theorem send_if' {α : Type} {Q : α → sProp 𝕄} (c b : Dev nD) {C : Prop} [Decidable C] (hC : C ↔ c ≠ b) {n : C → Dev nD} (hn : ∀ h, n h = b)
    {s1 : DmaSem sig} (h1 : s1 = snd b) {s2 : C → DmaSem sig} (h2 : ∀ h, s2 h = rcv c)
    {o1 : Fin 3 → ℕ} (ho1 : o1 = ![b.val, 0, 0]) {o2 : C → Fin 3 → ℕ} (ho2 : ∀ h, o2 h = ![c.val, 0, 0])
    {i1 : ∀ a, o1 a + S1x512x256.size a ≤ S8x512x256.size a} {i2 : ∀ h, ∀ a, o2 h a + S1x512x256.size a ≤ S8x512x256.size a}
    {O₀ : CellTallies nD τ sig Unit} (O : CellTallies nD τ sig Unit) (hO : O₀ = O + qOwe c b)
    {hsc : ∀ h, (sq (slot qrM (o2 h) S1x512x256.size (i2 h))).view.ref.isScScratch = false} {hsrc : ∀ _ : C, (sq (slot qsM o1 S1x512x256.size i1)).view.WordExact}
    {hdst : ∀ h, (sq (slot qrM (o2 h) S1x512x256.size (i2 h))).view.WordExact}
    {hsem : ∀ h, DmaTarget.Typed .vmem (.dma (s2 h)) (.remote (Dev.tc (n h) : Thread nD τ) (sq (slot qrM (o2 h) S1x512x256.size (i2 h))) (.dma s1) (hsc h))}
    {K : Prog (TpuEff nD τ sig (Elt F) Λ₀ .tc) α} :
    iprop(recs m ∗ owesE (F := F) c O₀ ∗ sQ m c b)
      ⊢ iprop(((owesE (F := F) c O ∗ sD m c b) -∗ wpb c K Q)
          -∗ wpb c (dite C (fun h => .op (.enqueueDma (sq (slot qsM o1 S1x512x256.size i1))
              (.remote (Dev.tc (n h) : Thread nD τ) (sq (slot qrM (o2 h) S1x512x256.size (i2 h))) (.dma s1) (hsc h))
              (.dma (s2 h)) (hsrc h) (hdst h) (hsem h)) fun _ => K) (fun _ => K)) Q) :=
  send_if m c b hC hn h1 h2 ho1 ho2 O hO

theorem cond_0 (c : Dev nD) : k0_cond14 c = 1#1 ↔ c ≠ 0 := by revert c; decide
theorem dev_0 (h : k0_dev12 < nD) : (⟨k0_dev12, h⟩ : Dev nD) = 0 := Fin.ext k0_dev12_eq
theorem cond_1 (c : Dev nD) : k0_cond15 c = 1#1 ↔ c ≠ 1 := by revert c; decide
theorem dev_1 (h : k0_dev13 < nD) : (⟨k0_dev13, h⟩ : Dev nD) = 1 := Fin.ext k0_dev13_eq
theorem cond_2 (c : Dev nD) : k0_cond16 c = 1#1 ↔ c ≠ 2 := by revert c; decide
theorem dev_2 (h : k0_dev14 < nD) : (⟨k0_dev14, h⟩ : Dev nD) = 2 := Fin.ext k0_dev14_eq
theorem cond_3 (c : Dev nD) : k0_cond17 c = 1#1 ↔ c ≠ 3 := by revert c; decide
theorem dev_3 (h : k0_dev15 < nD) : (⟨k0_dev15, h⟩ : Dev nD) = 3 := Fin.ext k0_dev15_eq
theorem cond_4 (c : Dev nD) : k0_cond18 c = 1#1 ↔ c ≠ 4 := by revert c; decide
theorem dev_4 (h : k0_dev16 < nD) : (⟨k0_dev16, h⟩ : Dev nD) = 4 := Fin.ext k0_dev16_eq
theorem cond_5 (c : Dev nD) : k0_cond19 c = 1#1 ↔ c ≠ 5 := by revert c; decide
theorem dev_5 (h : k0_dev17 < nD) : (⟨k0_dev17, h⟩ : Dev nD) = 5 := Fin.ext k0_dev17_eq
theorem cond_6 (c : Dev nD) : k0_cond20 c = 1#1 ↔ c ≠ 6 := by revert c; decide
theorem dev_6 (h : k0_dev18 < nD) : (⟨k0_dev18, h⟩ : Dev nD) = 6 := Fin.ext k0_dev18_eq
theorem cond_7 (c : Dev nD) : k0_cond21 c = 1#1 ↔ c ≠ 7 := by revert c; decide
theorem dev_7 (h : k0_dev19 < nD) : (⟨k0_dev19, h⟩ : Dev nD) = 7 := Fin.ext k0_dev19_eq

/-- The third exchange, the scale, block 0 sent and block 1 quantised. -/
theorem part3_wp (c : Dev nD) (i : grid0.Coords) {a1 : Memref sig .tc .vmem S512x4096 .f32} {h1 : a1.IsWhole} {a2 : Memref sig .tc .vmem S4096x256 .f32} {h2 : a2.IsWhole} {v2 : BitVec 32} {h13 : k0_cond13 i = 1#1} {w : BitVec 32}
    {Q : (Σ' (v78 : F .f32), F .f32) → sProp 𝕄} :
    iprop(recs m ∗ owesE (F := F) c (OR c 0) ∗ cred (tallyAt (dcell c (rdR 2)) () Nr) ∗ atPos ER (dcell c (rdR 2)) 0 ∅ 0 ∗ yAt c 0 (yv m c 0) ∗ sP (F := F) c 0 ∗ yAt c 1 (yv m c 1) ∗ sP (F := F) c 1)
      ⊢ iprop(((owesE (F := F) c (OQ c 7) ∗ semVal (dcell c (rdR 2)) 0 ∗ rdrAt c (2 : Fin 3).castSucc (row2 m (px 2 c)) ∗ yAt c 0 (yv m c 0) ∗ sD m c 0 ∗ yAt c 1 (yv m c 1) ∗ sQ m c 1) -∗ Q ⟨scl m c, isc m c⟩)
        -∗ wpb c (k0_part3 (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11 c v2 h13 (run2 m c) w) Q) := by
  simp only [k0_part3_eq_skeleton]; unfold k0_part3_skel
  simp -zeta only [semSignalWord, semWaitWord, Prog.lift, Prog.bind_op, Prog.bind_ret, Prog.pure_eq_ret, wp_deviceId]
  iintro ⟨#Hr, HO, CR2, AR2, Y0, S0, Y1, S1⟩ Hk
  iapply (rdr_wait m c 2 0 rfl (sem_rdR 2 rfl) (credit_r _ _)) $$ [$Hr $HO $CR2 $AR2]
  iintro ⟨HO, ZR2, RR2⟩
  iapply (load_at c rfl) $$ RR2
  iintro RR2
  iapply (quant m c 0 rfl rfl rfl) $$ [$Y0 $S0]
  iintro ⟨Y0, S0⟩
  iapply (send_if' m c 0 (cond_0 c) (fun _ => dev_0 _) (sem_snd 0 rfl) (fun h => sem_rcv c (k0_off2_eq c)) rfl (fun h => k0_off3_eq c) (OQ c 7) rfl) $$ [$Hr $HO $S0]
  iintro ⟨HO, S0⟩
  iapply (quant m c 1 rfl rfl rfl) $$ [$Y1 $S1]
  iintro ⟨Y1, S1⟩
  rw [scl_eq, isc_eq]
  iapply (wpb_ret c ⟨scl m c, isc m c⟩)
  iapply Hk
  iframe HO RR2 S0 S1 Y0 Y1 ZR2

/-- Blocks 1, 2 and 3 sent, block 4 quantised. -/
theorem part4_wp (c : Dev nD) (i : grid0.Coords) {a1 : Memref sig .tc .vmem S512x4096 .f32} {h1 : a1.IsWhole} {a2 : Memref sig .tc .vmem S4096x256 .f32} {h2 : a2.IsWhole} {v2 : BitVec 32} {h13 : k0_cond13 i = 1#1}
    {Q : BitVec 32 → sProp 𝕄} :
    iprop(recs m ∗ owesE (F := F) c (OQ c 7) ∗ sQ m c 1 ∗ yAt c 2 (yv m c 2) ∗ sP (F := F) c 2 ∗ yAt c 3 (yv m c 3) ∗ sP (F := F) c 3 ∗ yAt c 4 (yv m c 4) ∗ sP (F := F) c 4)
      ⊢ iprop(((owesE (F := F) c (OQ c 4) ∗ sD m c 1 ∗ yAt c 2 (yv m c 2) ∗ sD m c 2 ∗ yAt c 3 (yv m c 3) ∗ sD m c 3 ∗ yAt c 4 (yv m c 4) ∗ sQ m c 4) -∗ Q (Scalar.extui (Scalar.cmpi .ne v2 4#32)))
        -∗ wpb c (k0_part4 (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11 c v2 h13 (isc m c)) Q) := by
  simp only [k0_part4_eq_skeleton]; unfold k0_part4_skel
  simp -zeta only [semSignalWord, semWaitWord, Prog.lift, Prog.bind_op, Prog.bind_ret, Prog.pure_eq_ret, wp_deviceId]
  iintro ⟨#Hr, HO, S1, Y2, S2, Y3, S3, Y4, S4⟩ Hk
  iapply (send_if' m c 1 (cond_1 c) (fun _ => dev_1 _) (sem_snd 1 rfl) (fun h => sem_rcv c (k0_off4_eq c)) rfl (fun h => k0_off5_eq c) (OQ c 6) rfl) $$ [$Hr $HO $S1]
  iintro ⟨HO, S1⟩
  iapply (quant m c 2 rfl rfl rfl) $$ [$Y2 $S2]
  iintro ⟨Y2, S2⟩
  iapply (send_if' m c 2 (cond_2 c) (fun _ => dev_2 _) (sem_snd 2 rfl) (fun h => sem_rcv c (k0_off6_eq c)) rfl (fun h => k0_off7_eq c) (OQ c 5) rfl) $$ [$Hr $HO $S2]
  iintro ⟨HO, S2⟩
  iapply (quant m c 3 rfl rfl rfl) $$ [$Y3 $S3]
  iintro ⟨Y3, S3⟩
  iapply (send_if' m c 3 (cond_3 c) (fun _ => dev_3 _) (sem_snd 3 rfl) (fun h => sem_rcv c (k0_off8_eq c)) rfl (fun h => k0_off9_eq c) (OQ c 4) rfl) $$ [$Hr $HO $S3]
  iintro ⟨HO, S3⟩
  iapply (quant m c 4 rfl rfl rfl) $$ [$Y4 $S4]
  iintro ⟨Y4, S4⟩
  iapply (wpb_ret c _)
  iapply Hk
  iframe HO S1 S2 S3 S4 Y2 Y3 Y4

/-- Blocks 4 to 7 sent. -/
theorem part5_wp (c : Dev nD) (i : grid0.Coords) {a1 : Memref sig .tc .vmem S512x4096 .f32} {h1 : a1.IsWhole} {a2 : Memref sig .tc .vmem S4096x256 .f32} {h2 : a2.IsWhole} {v2 : BitVec 32} {h13 : k0_cond13 i = 1#1} {w : BitVec 32}
    {Q : PUnit → sProp 𝕄} :
    iprop(recs m ∗ owesE (F := F) c (OQ c 4) ∗ sQ m c 4 ∗ yAt c 5 (yv m c 5) ∗ sP (F := F) c 5 ∗ yAt c 6 (yv m c 6) ∗ sP (F := F) c 6 ∗ yAt c 7 (yv m c 7) ∗ sP (F := F) c 7)
      ⊢ iprop(((owesE (F := F) c 0 ∗ sD m c 4 ∗ yAt c 5 (yv m c 5) ∗ sD m c 5 ∗ yAt c 6 (yv m c 6) ∗ sD m c 6 ∗ yAt c 7 (yv m c 7) ∗ sD m c 7) -∗ Q ⟨⟩)
        -∗ wpb c (k0_part5 (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11 c v2 h13 (isc m c) w) Q) := by
  simp only [k0_part5_eq_skeleton]; unfold k0_part5_skel
  simp -zeta only [semSignalWord, semWaitWord, Prog.lift, Prog.bind_op, Prog.bind_ret, Prog.pure_eq_ret, wp_deviceId]
  iintro ⟨#Hr, HO, S4, Y5, S5, Y6, S6, Y7, S7⟩ Hk
  iapply (send_if' m c 4 (cond_4 c) (fun _ => dev_4 _) (sem_snd 4 rfl) (fun h => sem_rcv c (k0_off10_eq c)) rfl (fun h => k0_off11_eq c) (OQ c 3) rfl) $$ [$Hr $HO $S4]
  iintro ⟨HO, S4⟩
  iapply (quant m c 5 rfl rfl rfl) $$ [$Y5 $S5]
  iintro ⟨Y5, S5⟩
  iapply (send_if' m c 5 (cond_5 c) (fun _ => dev_5 _) (sem_snd 5 rfl) (fun h => sem_rcv c (k0_off12_eq c)) rfl (fun h => k0_off13_eq c) (OQ c 2) rfl) $$ [$Hr $HO $S5]
  iintro ⟨HO, S5⟩
  iapply (quant m c 6 rfl rfl rfl) $$ [$Y6 $S6]
  iintro ⟨Y6, S6⟩
  iapply (send_if' m c 6 (cond_6 c) (fun _ => dev_6 _) (sem_snd 6 rfl) (fun h => sem_rcv c (k0_off14_eq c)) rfl (fun h => k0_off15_eq c) (OQ c 1) rfl) $$ [$Hr $HO $S6]
  iintro ⟨HO, S6⟩
  iapply (quant m c 7 rfl rfl rfl) $$ [$Y7 $S7]
  iintro ⟨Y7, S7⟩
  iapply (send_if' m c 7 (cond_7 c) (fun _ => dev_7 _) (sem_snd 7 rfl) (fun h => sem_rcv c (k0_off16_eq c)) rfl (fun h => k0_off17_eq c) (OQ c 0) rfl) $$ [$Hr $HO $S7]
  iintro ⟨HO, S7⟩
  iapply (wpb_ret c ⟨⟩)
  iapply Hk
  iframe HO S4 S5 S6 S7 Y5 Y6 Y7

/-- `recv_if` on the bundles. -/
theorem recv_if' {α : Type} {Q : α → sProp 𝕄} (c t : Dev nD) {C : Prop} [Decidable C] (hC : C ↔ c ≠ t)
    {P : Vec F S1x512x256 .fp8e4m3 → Vec F S1x512x256 .f32} (hP : ∀ q, P q = k0_pay22 (scl m c) q)
    {s1 s2 : DmaSem sig} (h1 : s1 = rcv t) (h2 : s2 = out t)
    {o : Fin 3 → ℕ} (ho : o = ![t.val, 0, 0]) {o' : Fin 2 → ℕ} (ho' : o' = ![512 * t.val, 0])
    {i i1 i2 i3 i4 i5 : ∀ a, o a + S1x512x256.size a ≤ S8x512x256.size a} {i' : ∀ a, o' a + S512x256.size a ≤ S4096x256.size a}
    {w1 w2} {hl1 : qrM.view.LoadsAt (Rect.unit (s := S8x512x256) o S1x512x256.size i2).toLoadRect} {hl2 : osM.view.LoadsAt (Rect.unit (s := S8x512x256) o S1x512x256.size i3).toLoadRect}
    {hx hm} {w3 w4} {hsem : DmaTarget.Typed .vmem (.dma s2) (DmaTarget.here (nD := nD) (p := (Proc.tc : Proc τ)) (slot v1M o' S512x256.size i'))}
    {K : Prog (TpuEff nD τ sig (Elt F) Λ₀ .tc) α} :
    iprop(recs m ∗ owesE (F := F) c 0 ∗ rP (F := F) c t)
      ⊢ iprop(((owesE (F := F) c 0 ∗ rD (F := F) c t) -∗ wpb c K Q)
          -∗ wpb c (dite C (fun _ => .op (.waitDma2 s1 (sq (slot qsM o S1x512x256.size i)) (sq (slot qrM o S1x512x256.size i1)) w1 w2) fun _ =>
              .op (.load qrM (Rect.unit (s := S8x512x256) o S1x512x256.size i2).toLoadRect hl1) fun q =>
              .op (.load osM (Rect.unit (s := S8x512x256) o S1x512x256.size i3).toLoadRect hl2) fun _ =>
              .op (.store osM (Rect.unit (s := S8x512x256) o S1x512x256.size i4) (P q) Finset.univ hx hm) fun _ =>
              .op (.enqueueDma (sq (slot osM o S1x512x256.size i5)) (DmaTarget.here (nD := nD) (p := (Proc.tc : Proc τ)) (slot v1M o' S512x256.size i'))
                (.dma s2) w3 w4 hsem) fun _ => K) (fun _ => K)) Q) :=
  recv_if m c t hC hP h1 h2 ho ho'

/-- `snd_wait_if` on the bundles. -/
theorem snd_wait_if' {α : Type} {Q : α → sProp 𝕄} (c b : Dev nD) {C : Prop} [Decidable C] (hC : C ↔ c ≠ b)
    {s1 : DmaSem sig} (h1 : s1 = snd b) {sp sp' : Space} {s s' : Shape} {e e' : EltTy} {src : Memref sig .tc sp s e} {dst : Memref sig .tc sp' s' e'}
    (hN : dst.view.dmaCredit = Nq) {w1 w2} {K : Prog (TpuEff nD τ sig (Elt F) Λ₀ .tc) α} :
    iprop(recs m ∗ owesE (F := F) c 0 ∗ atPos ER (dcell c (snd b)) 0 ∅ 0 ∗ sD m c b)
      ⊢ iprop(((owesE (F := F) c 0 ∗ wD (F := F) c b) -∗ wpb c K Q)
          -∗ wpb c (dite C (fun _ => .op (.waitDma2 s1 src dst w1 w2) fun _ => K) (fun _ => K)) Q) :=
  snd_wait_if m c b hC h1 hN

/-- The device's own block, and the blocks of devices 0 to 4. -/
theorem part6_wp (c : Dev nD) (i : grid0.Coords) {a1 : Memref sig .tc .vmem S512x4096 .f32} {h1 : a1.IsWhole} {a2 : Memref sig .tc .vmem S4096x256 .f32} {h2 : a2.IsWhole} {h13 : k0_cond13 i = 1#1}
    {Q : BitVec 1 → sProp 𝕄} :
    iprop(recs m ∗ owesE (F := F) c 0 ∗ qsAt c c (qv m c c) ∗ osAny (F := F) c c ∗ v1Any (F := F) c c ∗ dutyTok ER (dcell c (out c)) 0 0 ∗ rP (F := F) c 0 ∗ rP (F := F) c 1 ∗ rP (F := F) c 2 ∗ rP (F := F) c 3 ∗ rP (F := F) c 4)
      ⊢ iprop(((owesE (F := F) c 0 ∗ qsAt c c (qv m c c) ∗ cred (tallyAt (dcell c (out c)) () No) ∗ rD (F := F) c 0 ∗ rD (F := F) c 1 ∗ rD (F := F) c 2 ∗ rD (F := F) c 3 ∗ rD (F := F) c 4) -∗ Q (neW c 5#32))
        -∗ wpb c (k0_part6 (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11 c (meW c) h13 (scl m c)) Q) := by
  simp only [k0_part6_eq_skeleton]; unfold k0_part6_skel
  simp -zeta only [semSignalWord, semWaitWord, Prog.lift, Prog.bind_op, Prog.bind_ret, Prog.pure_eq_ret, wp_deviceId]
  iintro ⟨#Hr, HO, QC, OC, VC, TC, R0, R1, R2, R3, R4⟩ Hk
  iapply (load_at c (k0_off18_eq c)) $$ QC
  iintro QC
  icases OC with ⟨%X, OC⟩
  iapply (load_at c (k0_off18_eq c)) $$ OC
  iintro OC
  iapply (store_at c (k0_off18_eq c)) $$ OC
  iintro OC
  iapply (copy_out m c c (show k0_pay21 (scl m c) (qv m c c) = ov m c c from (if_pos rfl).symm) (sem_out c (k0_off19_eq c)) (k0_off21_eq c) (k0_off20_eq c)) $$ [$Hr $OC $VC $TC]
  iintro CO
  iapply (recv_if' m c 0 (ne_iff c 0) (fun _ => rfl) (sem_rcv 0 rfl) (sem_out 0 rfl) rfl rfl) $$ [$Hr $HO $R0]
  iintro ⟨HO, R0⟩
  iapply (recv_if' m c 1 (ne_iff c 1) (fun _ => rfl) (sem_rcv 1 rfl) (sem_out 1 rfl) rfl rfl) $$ [$Hr $HO $R1]
  iintro ⟨HO, R1⟩
  iapply (recv_if' m c 2 (ne_iff c 2) (fun _ => rfl) (sem_rcv 2 rfl) (sem_out 2 rfl) rfl rfl) $$ [$Hr $HO $R2]
  iintro ⟨HO, R2⟩
  iapply (recv_if' m c 3 (ne_iff c 3) (fun _ => rfl) (sem_rcv 3 rfl) (sem_out 3 rfl) rfl rfl) $$ [$Hr $HO $R3]
  iintro ⟨HO, R3⟩
  iapply (recv_if' m c 4 (ne_iff c 4) (fun _ => rfl) (sem_rcv 4 rfl) (sem_out 4 rfl) rfl rfl) $$ [$Hr $HO $R4]
  iintro ⟨HO, R4⟩
  iapply (wpb_ret c (neW c 5#32))
  iapply Hk
  iframe CO HO QC R0 R1 R2 R3 R4

/-- The blocks of devices 5 to 7, and the waits for the slots sent to devices 0 to 6. -/
theorem part7_wp (c : Dev nD) (i : grid0.Coords) {a1 : Memref sig .tc .vmem S512x4096 .f32} {h1 : a1.IsWhole} {a2 : Memref sig .tc .vmem S4096x256 .f32} {h2 : a2.IsWhole}
    {Q : BitVec 1 → sProp 𝕄} :
    iprop(recs m ∗ owesE (F := F) c 0 ∗ rP (F := F) c 5 ∗ rP (F := F) c 6 ∗ rP (F := F) c 7 ∗ atPos ER (dcell c (snd 0)) 0 ∅ 0 ∗ sD m c 0 ∗ atPos ER (dcell c (snd 1)) 0 ∅ 0 ∗ sD m c 1 ∗ atPos ER (dcell c (snd 2)) 0 ∅ 0 ∗ sD m c 2 ∗ atPos ER (dcell c (snd 3)) 0 ∅ 0 ∗ sD m c 3 ∗ atPos ER (dcell c (snd 4)) 0 ∅ 0 ∗ sD m c 4 ∗ atPos ER (dcell c (snd 5)) 0 ∅ 0 ∗ sD m c 5 ∗ atPos ER (dcell c (snd 6)) 0 ∅ 0 ∗ sD m c 6)
      ⊢ iprop(((owesE (F := F) c 0 ∗ rD (F := F) c 5 ∗ rD (F := F) c 6 ∗ rD (F := F) c 7 ∗ wD (F := F) c 0 ∗ wD (F := F) c 1 ∗ wD (F := F) c 2 ∗ wD (F := F) c 3 ∗ wD (F := F) c 4 ∗ wD (F := F) c 5 ∗ wD (F := F) c 6) -∗ Q (neW c 7#32))
        -∗ wpb c (k0_part7 (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11 (meW c) (scl m c) (neW c 5#32)) Q) := by
  simp only [k0_part7_eq_skeleton]; unfold k0_part7_skel
  simp -zeta only [semSignalWord, semWaitWord, Prog.lift, Prog.bind_op, Prog.bind_ret, Prog.pure_eq_ret, wp_deviceId]
  iintro ⟨#Hr, HO, R5, R6, R7, A0, S0, A1, S1, A2, S2, A3, S3, A4, S4, A5, S5, A6, S6⟩ Hk
  iapply (recv_if' m c 5 (ne_iff c 5) (fun _ => rfl) (sem_rcv 5 rfl) (sem_out 5 rfl) rfl rfl) $$ [$Hr $HO $R5]
  iintro ⟨HO, R5⟩
  iapply (recv_if' m c 6 (ne_iff c 6) (fun _ => rfl) (sem_rcv 6 rfl) (sem_out 6 rfl) rfl rfl) $$ [$Hr $HO $R6]
  iintro ⟨HO, R6⟩
  iapply (recv_if' m c 7 (ne_iff c 7) (fun _ => rfl) (sem_rcv 7 rfl) (sem_out 7 rfl) rfl rfl) $$ [$Hr $HO $R7]
  iintro ⟨HO, R7⟩
  iapply (snd_wait_if' m c 0 (ne_iff c 0) (sem_snd 0 rfl) (credit_qs _ _)) $$ [$Hr $HO $A0 $S0]
  iintro ⟨HO, W0⟩
  iapply (snd_wait_if' m c 1 (ne_iff c 1) (sem_snd 1 rfl) (credit_qs _ _)) $$ [$Hr $HO $A1 $S1]
  iintro ⟨HO, W1⟩
  iapply (snd_wait_if' m c 2 (ne_iff c 2) (sem_snd 2 rfl) (credit_qs _ _)) $$ [$Hr $HO $A2 $S2]
  iintro ⟨HO, W2⟩
  iapply (snd_wait_if' m c 3 (ne_iff c 3) (sem_snd 3 rfl) (credit_qs _ _)) $$ [$Hr $HO $A3 $S3]
  iintro ⟨HO, W3⟩
  iapply (snd_wait_if' m c 4 (ne_iff c 4) (sem_snd 4 rfl) (credit_qs _ _)) $$ [$Hr $HO $A4 $S4]
  iintro ⟨HO, W4⟩
  iapply (snd_wait_if' m c 5 (ne_iff c 5) (sem_snd 5 rfl) (credit_qs _ _)) $$ [$Hr $HO $A5 $S5]
  iintro ⟨HO, W5⟩
  iapply (snd_wait_if' m c 6 (ne_iff c 6) (sem_snd 6 rfl) (credit_qs _ _)) $$ [$Hr $HO $A6 $S6]
  iintro ⟨HO, W6⟩
  iapply (wpb_ret c (neW c 7#32))
  iapply Hk
  iframe HO R5 R6 R7 W0 W1 W2 W3 W4 W5 W6

/-- The waits for the slot sent to device 7, the rows sent and result block 0. -/
theorem part8_wp (c : Dev nD) (i : grid0.Coords) {a1 : Memref sig .tc .vmem S512x4096 .f32} {h1 : a1.IsWhole} {a2 : Memref sig .tc .vmem S4096x256 .f32} {h2 : a2.IsWhole}
    {Q : PUnit → sProp 𝕄} :
    iprop(recs m ∗ owesE (F := F) c 0 ∗ atPos ER (dcell c (snd 7)) 0 ∅ 0 ∗ sD m c 7 ∗ xP (F := F) c 0 ∗ xP (F := F) c 1 ∗ xP (F := F) c 2 ∗ oP (F := F) c 0)
      ⊢ iprop(((owesE (F := F) c 0 ∗ wD (F := F) c 7 ∗ xD (F := F) c 0 ∗ xD (F := F) c 1 ∗ xD (F := F) c 2 ∗ oD m c 0) -∗ Q ⟨⟩)
        -∗ wpb c (k0_part8 (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11 (meW c) (neW c 7#32)) Q) := by
  simp only [k0_part8_eq_skeleton]; unfold k0_part8_skel
  simp -zeta only [semSignalWord, semWaitWord, Prog.lift, Prog.bind_op, Prog.bind_ret, Prog.pure_eq_ret, wp_deviceId]
  iintro ⟨#Hr, HO, A7, S7, X0, X1, X2, O0⟩ Hk
  iapply (snd_wait_if' m c 7 (ne_iff c 7) (sem_snd 7 rfl) (credit_qs _ _)) $$ [$Hr $HO $A7 $S7]
  iintro ⟨HO, W7⟩
  iapply (rds_wait m c 0 (sem_rdS 0 rfl) (credit_s _ _)) $$ [$Hr $HO $X0]
  iintro ⟨HO, X0⟩
  iapply (rds_wait m c 1 (sem_rdS 1 rfl) (credit_s _ _)) $$ [$Hr $HO $X1]
  iintro ⟨HO, X1⟩
  iapply (rds_wait m c 2 (sem_rdS 2 rfl) (credit_s _ _)) $$ [$Hr $HO $X2]
  iintro ⟨HO, X2⟩
  iapply (out_wait m c 0 (sem_out 0 rfl) (credit_v _ _)) $$ [$Hr $HO $O0]
  iintro ⟨HO, O0⟩
  iapply (wpb_ret c ⟨⟩)
  iapply Hk
  iframe HO O0 W7 X0 X1 X2

/-- The waits for result blocks 1 to 5. -/
theorem part9_wp (c : Dev nD) (i : grid0.Coords) {a1 : Memref sig .tc .vmem S512x4096 .f32} {h1 : a1.IsWhole} {a2 : Memref sig .tc .vmem S4096x256 .f32} {h2 : a2.IsWhole}
    {Q : PUnit → sProp 𝕄} :
    iprop(recs m ∗ owesE (F := F) c 0 ∗ oP (F := F) c 1 ∗ oP (F := F) c 2 ∗ oP (F := F) c 3 ∗ oP (F := F) c 4 ∗ oP (F := F) c 5)
      ⊢ iprop(((owesE (F := F) c 0 ∗ oD m c 1 ∗ oD m c 2 ∗ oD m c 3 ∗ oD m c 4 ∗ oD m c 5) -∗ Q ⟨⟩)
        -∗ wpb c (k0_part9 (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11 ) Q) := by
  simp only [k0_part9_eq_skeleton]; unfold k0_part9_skel
  simp -zeta only [semSignalWord, semWaitWord, Prog.lift, Prog.bind_op, Prog.bind_ret, Prog.pure_eq_ret, wp_deviceId]
  iintro ⟨#Hr, HO, O1, O2, O3, O4, O5⟩ Hk
  iapply (out_wait m c 1 (sem_out 1 rfl) (credit_v _ _)) $$ [$Hr $HO $O1]
  iintro ⟨HO, O1⟩
  iapply (out_wait m c 2 (sem_out 2 rfl) (credit_v _ _)) $$ [$Hr $HO $O2]
  iintro ⟨HO, O2⟩
  iapply (out_wait m c 3 (sem_out 3 rfl) (credit_v _ _)) $$ [$Hr $HO $O3]
  iintro ⟨HO, O3⟩
  iapply (out_wait m c 4 (sem_out 4 rfl) (credit_v _ _)) $$ [$Hr $HO $O4]
  iintro ⟨HO, O4⟩
  iapply (out_wait m c 5 (sem_out 5 rfl) (credit_v _ _)) $$ [$Hr $HO $O5]
  iintro ⟨HO, O5⟩
  iapply (wpb_ret c ⟨⟩)
  iapply Hk
  iframe HO O1 O2 O3 O4 O5

end Cert.KernelIdealProof

end
-- ==== Proof.Column.lean ====
/-
# The first eight points: a column block of `relu (x w)` and the running maximum

At its first point a device signals the other seven, handing each its landing slot and the landing rows of their
exchanges. At each of the first eight points it computes a column block and folds its maximum into the running one.
-/
module

public import proofs.«01_k».proof.Proof.Parts

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A guarded group whose condition holds is run; -/
theorem wpb_pos {α : Type} {Q : α → sProp 𝕄} (c : Dev nD) {C : Prop} [Decidable C] (h : C) {A : C → Prog (TpuEff nD τ sig (Elt F) Λ₀ .tc) α}
    {B : ¬ C → Prog (TpuEff nD τ sig (Elt F) Λ₀ .tc) α} : wpb c (A h) Q ⊢ wpb c (dite C A B) Q := by
  rw [dif_pos h]
/-- one whose condition fails is skipped. -/
theorem wpb_neg {α : Type} {Q : α → sProp 𝕄} (c : Dev nD) {C : Prop} [Decidable C] (h : ¬ C) {A : C → Prog (TpuEff nD τ sig (Elt F) Λ₀ .tc) α}
    {B : ¬ C → Prog (TpuEff nD τ sig (Elt F) Λ₀ .tc) α} : wpb c (B h) Q ⊢ wpb c (dite C A B) Q := by
  rw [dif_neg h]
theorem wpb_bind {α β : Type} {Q : β → sProp 𝕄} (c : Dev nD) {p : Prog (TpuEff nD τ sig (Elt F) Λ₀ .tc) α} {k : α → Prog (TpuEff nD τ sig (Elt F) Λ₀ .tc) β} :
    wpb c p (fun a => wpb c (k a) Q) ⊢ wpb c (p.bind k) Q := by
  show _ ⊢ wp _ _ _ (p >>= k) _
  rw [wp_bind]

/-- The device reads its own number. -/
theorem wpb_deviceId {α : Type} {Q : α → sProp 𝕄} (c : Dev nD) {k : Dev nD → Prog (TpuEff nD τ sig (Elt F) Λ₀ .tc) α} :
    wpb c (k c) Q ⊢ wpb c (.op .deviceId k) Q := by
  show _ ⊢ wp _ _ _ _ _
  rw [wp_deviceId]

/-! ## The conditions by the point -/

theorem cond1_iff : ∀ i : grid0.Coords, k0_cond1 i = 1#1 ↔ (i 0).val = 0 := by decide +kernel
theorem cond10_iff : ∀ i : grid0.Coords, k0_cond10 i = 1#1 ↔ (i 0).val < 8 := by decide +kernel
theorem cond13_iff : ∀ i : grid0.Coords, k0_cond13 i = 1#1 ↔ (i 0).val = 8 := by decide +kernel
theorem first_iff : ∀ i : grid0.Coords, Scalar.cmpi .ne (Scalar.extui (Scalar.cmpi .eq (BitVec.ofNat 32 (i 0).val) 0#32) : BitVec 32) 0#32 = 1#1 ↔ (i 0).val = 0 := by
  decide +kernel
theorem later_iff : ∀ i : grid0.Coords, Scalar.cmpi .ne (Scalar.extui (Scalar.cmpi .sgt (BitVec.ofNat 32 (i 0).val) 0#32) : BitVec 32) 0#32 = 1#1 ↔ 0 < (i 0).val := by
  decide +kernel

theorem bcond_0 (c : Dev nD) : k0_cond2 c = 1#1 ↔ c ≠ 0 := by revert c; decide
theorem bcond_1 (c : Dev nD) : k0_cond3 c = 1#1 ↔ c ≠ 1 := by revert c; decide
theorem bcond_2 (c : Dev nD) : k0_cond4 c = 1#1 ↔ c ≠ 2 := by revert c; decide
theorem bcond_3 (c : Dev nD) : k0_cond5 c = 1#1 ↔ c ≠ 3 := by revert c; decide
theorem bcond_4 (c : Dev nD) : k0_cond6 c = 1#1 ↔ c ≠ 4 := by revert c; decide
theorem bcond_5 (c : Dev nD) : k0_cond7 c = 1#1 ↔ c ≠ 5 := by revert c; decide
theorem bcond_6 (c : Dev nD) : k0_cond8 c = 1#1 ↔ c ≠ 6 := by revert c; decide
theorem bcond_7 (c : Dev nD) : k0_cond9 c = 1#1 ↔ c ≠ 7 := by revert c; decide

/-- What device `c` hands device `b` at its first point, and the token that pays for it. -/
def bP (c b : Dev nD) : sProp 𝕄 := iprop(dutyTok ER (barCell b) 0 c ∗ (if c = b then iprop(emp) else barPay (F := F) b c))

/-- `signal_if` on the bundle. -/
theorem signal_if' {α : Type} {Q : α → sProp 𝕄} (c b : Dev nD) {C : Prop} [Decidable C] (hC : C ↔ c ≠ b) {n : C → Dev nD} (hn : ∀ h, n h = b) {a : ℕ} (ha : a = 1)
    {O₀ : CellTallies nD τ sig Unit} (O : CellTallies nD τ sig Unit) (hO : O₀ = O + barOwe c b) {K : Prog (TpuEff nD τ sig (Elt F) Λ₀ .tc) α} :
    iprop(recs m ∗ owesE (F := F) c O₀ ∗ bP (F := F) c b)
      ⊢ iprop((owesE (F := F) c O -∗ wpb c K Q)
          -∗ wpb c (dite C (fun h => .op (.semSignal (n h : Thread nD τ) barS a) fun _ => K) (fun _ => K)) Q) :=
  signal_if m c b hC hn ha O hO

/-- The first point: the signals, column block 0, and its maximum. -/
theorem first_wp (c j : Dev nD) (i : grid0.Coords) (hi : (i 0).val = j.val) (hj : j.val = 0) {a1 : Memref sig .tc .vmem S512x4096 .f32} {h1 : a1.IsWhole} {a2 : Memref sig .tc .vmem S4096x256 .f32} {h2 : a2.IsWhole}
    {Q : PUnit → sProp 𝕄} :
    iprop(recs m ∗ owesE (F := F) c (OB c 8) ∗ (bigSep Finset.univ fun b => bP (F := F) c b) ∗ owns (c : Thread nD τ) a1 fullShare (xv m c) ∗ owns (c : Thread nD τ) a2 fullShare (wv m c j.val) ∗ yAny (F := F) c j ∗ amAny (F := F) c)
      ⊢ iprop(((owesE (F := F) c (OR c 3) ∗ owns (c : Thread nD τ) a1 fullShare (xv m c) ∗ owns (c : Thread nD τ) a2 fullShare (wv m c j.val) ∗ yAt c j (yv m c j) ∗ amAt c (amv m c j.val)) -∗ Q ⟨⟩)
        -∗ wpb c (cc0_body (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11) Q) := by
  have hj8 : j.val < 8 := j.isLt
  rw [cc0_body_eq_skeleton]; unfold cc0_body_skel
  simp -zeta only [semSignalWord, semWaitWord, Prog.lift, Prog.bind_op, Prog.bind_ret, Prog.pure_eq_ret]
  rw [bigSep_dev]
  iintro ⟨#Hr, HO, ⟨B0, B1, B2, B3, B4, B5, B6, B7⟩, H1, H2, ⟨%Y, Y⟩, ⟨%A, A⟩⟩ Hk
  iapply (wpb_deviceId c)
  iapply (wpb_pos c ((cond1_iff i).mpr (hi.trans hj)))
  iapply (signal_if' m c 0 (bcond_0 c) (fun _ => Fin.ext k0_dev1_eq) rfl (OB c 7) rfl) $$ [$Hr $HO $B0]
  iintro HO
  iapply (signal_if' m c 1 (bcond_1 c) (fun _ => Fin.ext k0_dev2_eq) rfl (OB c 6) rfl) $$ [$Hr $HO $B1]
  iintro HO
  iapply (signal_if' m c 2 (bcond_2 c) (fun _ => Fin.ext k0_dev3_eq) rfl (OB c 5) rfl) $$ [$Hr $HO $B2]
  iintro HO
  iapply (signal_if' m c 3 (bcond_3 c) (fun _ => Fin.ext k0_dev4_eq) rfl (OB c 4) rfl) $$ [$Hr $HO $B3]
  iintro HO
  iapply (signal_if' m c 4 (bcond_4 c) (fun _ => Fin.ext k0_dev5_eq) rfl (OB c 3) rfl) $$ [$Hr $HO $B4]
  iintro HO
  iapply (signal_if' m c 5 (bcond_5 c) (fun _ => Fin.ext k0_dev6_eq) rfl (OB c 2) rfl) $$ [$Hr $HO $B5]
  iintro HO
  iapply (signal_if' m c 6 (bcond_6 c) (fun _ => Fin.ext k0_dev7_eq) rfl (OB c 1) rfl) $$ [$Hr $HO $B6]
  iintro HO
  iapply (signal_if' m c 7 (bcond_7 c) (fun _ => Fin.ext k0_dev8_eq) rfl (OB c 0) rfl) $$ [$Hr $HO $B7]
  iintro HO
  iapply (wpb_pos c ((cond10_iff i).mpr (by omega)))
  iapply (load_full c) $$ H1
  iintro H1
  iapply (load_full c) $$ H2
  iintro H2
  iapply (load_at c ((k0_off1_eq i).trans (by rw [hi]))) $$ Y
  iintro Y
  iapply (store_at c ((k0_off1_eq i).trans (by rw [hi]))) $$ Y
  iintro Y
  iapply (wpb_pos c ((first_iff i).mpr (by omega)))
  iapply (load_at c rfl) $$ A
  iintro A
  iapply (store_at c rfl) $$ A
  iintro A
  iapply (wpb_neg c (fun h => by have := (later_iff i).mp h; omega))
  iapply (wpb_neg c (fun h => by have := (cond13_iff i).mp h; omega))
  iapply (wpb_ret c (PUnit.unit))
  iapply Hk
  isplitl [HO]; · iexact HO
  isplitl [H1]; · iexact H1
  isplitl [H2]; · iexact H2
  isplitl [Y]; · iexact Y
  rw [hj]; iexact A

/-- A later point of the eight: column block `j`, its maximum folded into the running one. -/
theorem later_wp (c j : Dev nD) (i : grid0.Coords) (hi : (i 0).val = j.val) (n : ℕ) (hj : j.val = n + 1) {a1 : Memref sig .tc .vmem S512x4096 .f32} {h1 : a1.IsWhole} {a2 : Memref sig .tc .vmem S4096x256 .f32} {h2 : a2.IsWhole}
    {Q : PUnit → sProp 𝕄} :
    iprop(owns (c : Thread nD τ) a1 fullShare (xv m c) ∗ owns (c : Thread nD τ) a2 fullShare (wv m c j.val) ∗ yAny (F := F) c j ∗ amAt c (amv m c n))
      ⊢ iprop(((owns (c : Thread nD τ) a1 fullShare (xv m c) ∗ owns (c : Thread nD τ) a2 fullShare (wv m c j.val) ∗ yAt c j (yv m c j) ∗ amAt c (amv m c j.val)) -∗ Q ⟨⟩)
        -∗ wpb c (cc0_body (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11) Q) := by
  have hj8 : j.val < 8 := j.isLt
  rw [cc0_body_eq_skeleton]; unfold cc0_body_skel
  simp -zeta only [semSignalWord, semWaitWord, Prog.lift, Prog.bind_op, Prog.bind_ret, Prog.pure_eq_ret]
  iintro ⟨H1, H2, ⟨%Y, Y⟩, A⟩ Hk
  iapply (wpb_deviceId c)
  iapply (wpb_neg c (fun h => by have := (cond1_iff i).mp h; omega))
  iapply (wpb_pos c ((cond10_iff i).mpr (by omega)))
  iapply (load_full c) $$ H1
  iintro H1
  iapply (load_full c) $$ H2
  iintro H2
  iapply (load_at c ((k0_off1_eq i).trans (by rw [hi]))) $$ Y
  iintro Y
  iapply (store_at c ((k0_off1_eq i).trans (by rw [hi]))) $$ Y
  iintro Y
  iapply (wpb_neg c (fun h => by have := (first_iff i).mp h; omega))
  iapply (wpb_pos c ((later_iff i).mpr (by omega)))
  iapply (load_at c rfl) $$ A
  iintro A
  iapply (load_at c rfl) $$ A
  iintro A
  iapply (store_at c rfl) $$ A
  iintro A
  iapply (wpb_neg c (fun h => by have := (cond13_iff i).mp h; omega))
  iapply (wpb_ret c (PUnit.unit))
  iapply Hk
  isplitl [H1]; · iexact H1
  isplitl [H2]; · iexact H2
  isplitl [Y]; · iexact Y
  rw [hj]; iexact A

end Cert.KernelIdealProof

end
-- ==== Proof.Last.lean ====
/-
# The ninth point as a whole

What a device has of its own while the grid runs (`Mid`), what it has at the end (`Done`), and the ninth point between
them: the nine parts in order, and the last two waits.
-/
module

public import proofs.«01_k».proof.Proof.Column

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device has of its own -/

/-- For exchange `r`: the positions on its two semaphores, the credit for the partner's row, both tokens and the row. -/
def rdB (c : Dev nD) (r : Fin 3) : sProp 𝕄 :=
  iprop(atPos ER (dcell c (rdS r)) 0 ∅ 0 ∗ atPos ER (dcell c (rdR r)) 0 ∅ 0 ∗ cred (tallyAt (dcell c (rdR r)) () Nr)
    ∗ dutyTok ER (dcell c (rdS r)) 0 0 ∗ dutyTok ER (dcell (px r c) (rdR r)) 0 0 ∗ rdsAny (F := F) c r)
/-- For block `b` sent: the position, both tokens and the slot. -/
def sB (c b : Dev nD) : sProp 𝕄 :=
  iprop(atPos ER (dcell c (snd b)) 0 ∅ 0 ∗ dutyTok ER (dcell c (snd b)) 0 0 ∗ dutyTok ER (dcell b (rcv c)) 0 0 ∗ qsAny (F := F) c b)
/-- For block `t` received and stored: the positions, the credit for the block (none for the own one), the token of the
    copy, the staging slot and the rows of the result. -/
def rB (c t : Dev nD) : sProp 𝕄 :=
  iprop(atPos ER (dcell c (rcv t)) 0 ∅ 0 ∗ (if c = t then iprop(emp) else cred (tallyAt (dcell c (rcv t)) () Nq))
    ∗ atPos ER (dcell c (out t)) 0 ∅ 0 ∗ dutyTok ER (dcell c (out t)) 0 0 ∗ osAny (F := F) c t ∗ v1Any (F := F) c t)

/-- What device `c` has from its start to its ninth point, apart from the column blocks and the running maximum. -/
def Mid (c : Dev nD) : sProp 𝕄 :=
  iprop(cred (tallyAt (barCell c) () 7) ∗ atPos ER (barCell c) 0 ∅ 0
    ∗ (bigSep Finset.univ fun r : Fin 3 => rdB (F := F) c r) ∗ (bigSep Finset.univ fun b : Dev nD => sB (F := F) c b)
    ∗ (bigSep Finset.univ fun t : Dev nD => rB (F := F) c t) ∗ qrAny (F := F) c c ∗ rdrAny (F := F) c 3)

/-- What device `c` has at the end: every semaphore at zero, its buffers, and the result's rows. -/
def Done (c : Dev nD) : sProp 𝕄 :=
  iprop(semVal (barCell c) 0 ∗ (bigSep Finset.univ fun r : Fin 3 => iprop(semVal (dcell c (rdS r)) 0 ∗ semVal (dcell c (rdR r)) 0))
    ∗ (bigSep Finset.univ fun b : Dev nD => iprop(semVal (dcell c (snd b)) 0 ∗ semVal (dcell c (rcv b)) 0 ∗ semVal (dcell c (out b)) 0))
    ∗ (bigSep Finset.univ fun j : Dev nD => yAny (F := F) c j) ∗ (bigSep Finset.univ fun b : Dev nD => qsAny (F := F) c b)
    ∗ (bigSep Finset.univ fun t : Dev nD => qrAny (F := F) c t) ∗ (bigSep Finset.univ fun t : Dev nD => osAny (F := F) c t)
    ∗ (bigSep Finset.univ fun r : Fin 3 => rdsAny (F := F) c r) ∗ (bigSep Finset.univ fun r : Fin 4 => rdrAny (F := F) c r)
    ∗ amAny (F := F) c ∗ bigSep Finset.univ fun t : Dev nD => v1At c t (rv m c t))

/-! ## From these to the parts' bundles and back -/

theorem bigSep_three (Φ : Fin 3 → sProp 𝕄) : bigSep Finset.univ Φ = iprop(Φ 0 ∗ Φ 1 ∗ Φ 2) :=
  bigSep_univ_eq_bigSepL [0, 1, 2] (by decide) (by decide) Φ
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A family, its entry at `c` apart. -/
theorem take (c : Dev nD) (Φ : Dev nD → sProp 𝕄) : bigSep Finset.univ Φ ⊢ iprop(Φ c ∗ bigSep (Finset.univ.erase c) Φ) :=
  Entails.of_eq (bigSep_erase (Finset.mem_univ c))
theorem put (c : Dev nD) (Φ : Dev nD → sProp 𝕄) : iprop(Φ c ∗ bigSep (Finset.univ.erase c) Φ) ⊢ bigSep Finset.univ Φ :=
  Entails.of_eq (bigSep_erase (Finset.mem_univ c)).symm

/-- A family with nothing at `c`, and its entry at `c`. -/
theorem fill (c : Dev nD) (Φ : Dev nD → sProp 𝕄) :
    iprop((bigSep Finset.univ fun t => if c = t then iprop(emp) else Φ t) ∗ Φ c) ⊢ bigSep Finset.univ Φ := by
  rw [← bigSep_others c Φ]
  iintro ⟨H1, H2⟩
  iapply (put c Φ)
  isplitl [H2] <;> iassumption
/-- A family that has something at `c` alone. -/
theorem only (c : Dev nD) (Φ : Dev nD → sProp 𝕄) : (bigSep Finset.univ fun t => if c = t then Φ t else iprop(emp)) ⊢ Φ c := by
  refine (bigSep_elim (Finset.mem_univ c)).trans ?_
  rw [if_pos rfl]; exact Idealize.SL.BI.Entails.refl _

theorem send_parts (c : Dev nD) :
    iprop((bigSep Finset.univ fun b : Dev nD => sB (F := F) c b) ∗ bigSep Finset.univ fun b => if c = b then iprop(emp) else qrAny (F := F) b c)
      ⊢ iprop((bigSep Finset.univ fun b : Dev nD => atPos ER (dcell c (snd b)) 0 ∅ 0) ∗ bigSep Finset.univ fun b : Dev nD => sP (F := F) c b) := by
  rw [← bigSep_sep', ← bigSep_sep']
  refine bigSep_mono fun b _ => ?_
  show iprop(sB (F := F) c b ∗ (if c = b then iprop(emp) else qrAny (F := F) b c)) ⊢ iprop(atPos ER (dcell c (snd b)) 0 ∅ 0 ∗ sP (F := F) c b)
  unfold sB sP
  iintro ⟨⟨H1, H2, H3, H4⟩, H5⟩
  iframe H1 H2 H3 H4 H5

theorem recv_parts (c : Dev nD) :
    (bigSep Finset.univ fun t : Dev nD => rB (F := F) c t)
      ⊢ iprop((bigSep Finset.univ fun t : Dev nD => rP (F := F) c t) ∗ (bigSep Finset.univ fun t : Dev nD => atPos ER (dcell c (out t)) 0 ∅ 0)
        ∗ dutyTok ER (dcell c (out c)) 0 0 ∗ osAny (F := F) c c ∗ v1Any (F := F) c c) := by
  refine BIBase.Entails.trans (Q := iprop((bigSep Finset.univ fun t : Dev nD => rP (F := F) c t) ∗ (bigSep Finset.univ fun t : Dev nD => atPos ER (dcell c (out t)) 0 ∅ 0)
    ∗ bigSep Finset.univ fun t : Dev nD => if c = t then iprop(dutyTok ER (dcell c (out t)) 0 0 ∗ osAny (F := F) c t ∗ v1Any (F := F) c t) else iprop(emp))) ?_
    (sep_mono_right (sep_mono_right (only c fun t => iprop(dutyTok ER (dcell c (out t)) 0 0 ∗ osAny (F := F) c t ∗ v1Any (F := F) c t))))
  rw [← bigSep_sep', ← bigSep_sep']
  refine bigSep_mono fun t _ => ?_
  show rB (F := F) c t ⊢ iprop(rP (F := F) c t ∗ atPos ER (dcell c (out t)) 0 ∅ 0
    ∗ (if c = t then iprop(dutyTok ER (dcell c (out t)) 0 0 ∗ osAny (F := F) c t ∗ v1Any (F := F) c t) else iprop(emp)))
  unfold rB rP
  by_cases h : c = t
  · rw [if_pos h, if_pos h, if_pos h]
    iintro ⟨H1, -, H3, H4, H5, H6⟩
    isplitl [H1]
    · isplitl [H1]; · iexact H1
      iempintro
    iframe H3 H4 H5 H6
  · rw [if_neg h, if_neg h, if_neg h]
    iintro ⟨H1, H2, H3, H4, H5, H6⟩
    iframe H1 H2 H3 H4 H5 H6

/-- The own block among those sent, to be used and put back. -/
theorem own_block (c : Dev nD) :
    (bigSep Finset.univ fun b : Dev nD => sD m c b) ⊢ iprop(qsAt c c (qv m c c) ∗ (qsAt c c (qv m c c) -∗ bigSep Finset.univ fun b : Dev nD => sD m c b)) := by
  rw [show qsAt c c (qv m c c) = sD m c c from (if_pos rfl).symm]
  iintro H
  ihave H := (take c fun b => sD m c b) $$ H
  icases H with ⟨H1, H2⟩
  isplitl [H1]; · iexact H1
  iintro H1
  iapply (put c fun b => sD m c b)
  isplitl [H1] <;> iassumption

/-- The blocks received, the own landing slot and the own copy's credit: the semaphores, the landing slots, and every
    copy to wait for. -/
theorem received (c : Dev nD) :
    iprop((bigSep Finset.univ fun t : Dev nD => rD (F := F) c t) ∗ qrAny (F := F) c c ∗ cred (tallyAt (dcell c (out c)) () No)
        ∗ bigSep Finset.univ fun t : Dev nD => atPos ER (dcell c (out t)) 0 ∅ 0)
      ⊢ iprop((bigSep Finset.univ fun t : Dev nD => semVal (dcell c (rcv t)) 0) ∗ (bigSep Finset.univ fun t : Dev nD => qrAny (F := F) c t)
        ∗ bigSep Finset.univ fun t : Dev nD => oP (F := F) c t) := by
  have h : (bigSep Finset.univ fun t : Dev nD => rD (F := F) c t)
      ⊢ iprop((bigSep Finset.univ fun t : Dev nD => semVal (dcell c (rcv t)) 0)
        ∗ (bigSep Finset.univ fun t : Dev nD => if c = t then iprop(emp) else qrAny (F := F) c t)
        ∗ bigSep Finset.univ fun t : Dev nD => if c = t then iprop(emp) else cred (tallyAt (dcell c (out t)) () No)) := by
    rw [← bigSep_sep', ← bigSep_sep']
    refine bigSep_mono fun t _ => ?_
    show rD (F := F) c t ⊢ iprop(semVal (dcell c (rcv t)) 0 ∗ (if c = t then iprop(emp) else qrAny (F := F) c t)
      ∗ (if c = t then iprop(emp) else cred (tallyAt (dcell c (out t)) () No)))
    unfold rD
    by_cases h : c = t
    · rw [if_pos h, if_pos h, if_pos h]
      iintro ⟨H1, -⟩
      isplitl [H1]; · iexact H1
      isplitl [] <;> iempintro
    · rw [if_neg h, if_neg h, if_neg h]
  iintro ⟨H, Q, C, A⟩
  ihave H := h $$ H
  icases H with ⟨H1, H2, H3⟩
  isplitl [H1]; · iexact H1
  isplitl [H2 Q]
  · iapply (fill c fun t => qrAny (F := F) c t)
    isplitl [H2] <;> iassumption
  unfold oP
  rw [bigSep_sep']
  isplitl [A]; · iexact A
  iapply (fill c fun t => cred (tallyAt (dcell c (out t)) () No))
  isplitl [H3] <;> iassumption

/-- A block with some contents. -/
theorem any_y (c j : Dev nD) (X : Vec F S512x256 .f32) : yAt c j X ⊢ yAny (F := F) c j := by
  iintro H; iexists X; iexact H

/-- The send side at the end, by kind. -/
theorem sent (c : Dev nD) : (bigSep Finset.univ fun b : Dev nD => wD (F := F) c b)
    ⊢ iprop((bigSep Finset.univ fun b : Dev nD => semVal (dcell c (snd b)) 0) ∗ bigSep Finset.univ fun b : Dev nD => qsAny (F := F) c b) := by
  unfold wD; rw [bigSep_sep']
/-- The copies of the result at the end, by kind. -/
theorem stored (c : Dev nD) : (bigSep Finset.univ fun t : Dev nD => oD m c t)
    ⊢ iprop((bigSep Finset.univ fun t : Dev nD => semVal (dcell c (out t)) 0) ∗ (bigSep Finset.univ fun t : Dev nD => v1At c t (rv m c t))
      ∗ bigSep Finset.univ fun t : Dev nD => osAny (F := F) c t) := by
  unfold oD; rw [bigSep_sep', bigSep_sep']

/-- The ninth point. -/
theorem last_wp (c : Dev nD) (i : grid0.Coords) (hi : (i 0).val = 8) {a1 : Memref sig .tc .vmem S512x4096 .f32} {h1 : a1.IsWhole} {a2 : Memref sig .tc .vmem S4096x256 .f32} {h2 : a2.IsWhole}
    {Q : PUnit → sProp 𝕄} :
    iprop(recs m ∗ owesE (F := F) c (OR c 3) ∗ Mid (F := F) c ∗ (bigSep Finset.univ fun j : Dev nD => yAt c j (yv m c j)) ∗ amAt c (amv m c 7))
      ⊢ iprop(((owesE (F := F) c 0 ∗ Done m c) -∗ Q ⟨⟩)
        -∗ wpb c (cc0_body (F := F) i a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11) Q) := by
  rw [cc0_body_eq_skeleton]; unfold cc0_body_skel Mid
  simp -zeta only [Prog.lift, Prog.bind_op, Prog.bind_ret, Prog.pure_eq_ret]
  rw [bigSep_three, bigSep_dev (fun j => yAt c j (yv m c j))]
  unfold rdB
  iintro ⟨#Hr, HO, ⟨CB, AB, ⟨⟨AS0, AR0, CR0, TS0, TR0, RS0⟩, ⟨AS1, AR1, CR1, TS1, TR1, RS1⟩, ⟨AS2, AR2, CR2, TS2, TR2, RS2⟩⟩, SB, RB, QC, RR3⟩, ⟨Y0, Y1, Y2, Y3, Y4, Y5, Y6, Y7⟩, AM⟩ Hk
  ihave RB := (recv_parts (F := F) c) $$ RB
  icases RB with ⟨RP, AO, TO, OC, VC⟩
  iapply (wpb_deviceId c)
  iapply (wpb_neg c (fun h => by have := (cond1_iff i).mp h; omega))
  iapply (wpb_neg c (fun h => by have := (cond10_iff i).mp h; omega))
  iapply (wpb_pos c ((cond13_iff i).mpr hi))
  iapply (wpb_bind c)
  iapply (part1_wp m c i) $$ [$Hr $HO $CB $AB $AM $RS0 $RS1 $TS0 $TR0 $CR0 $AR0]
  iintro ⟨HO, ZB, AM, RS1, CS0, ZR0, RR0, HQ, N1, N2⟩
  ihave SB := (send_parts (F := F) c) $$ [$SB $HQ]
  icases SB with ⟨AN, SP⟩
  ihave SP := (Entails.of_eq (bigSep_dev fun b => sP (F := F) c b)) $$ SP
  icases SP with ⟨S0, S1, S2, S3, S4, S5, S6, S7⟩
  iapply (wpb_bind c)
  iapply (part2_wp m c i) $$ [$Hr $HO $RS1 $N1 $N2 $RS2 $TS1 $TR1 $CR1 $AR1 $TS2 $TR2]
  iintro ⟨HO, CS1, ZR1, RR1, CS2⟩
  iapply (wpb_bind c)
  iapply (part3_wp m c i) $$ [$Hr $HO $CR2 $AR2 $Y0 $S0 $Y1 $S1]
  iintro ⟨HO, ZR2, RR2, Y0, S0, Y1, S1⟩
  iapply (wpb_bind c)
  iapply (part4_wp m c i) $$ [$Hr $HO $S1 $Y2 $S2 $Y3 $S3 $Y4 $S4]
  iintro ⟨HO, S1, Y2, S2, Y3, S3, Y4, S4⟩
  iapply (wpb_bind c)
  iapply (part5_wp m c i) $$ [$Hr $HO $S4 $Y5 $S5 $Y6 $S6 $Y7 $S7]
  iintro ⟨HO, S4, Y5, S5, Y6, S6, Y7, S7⟩
  ihave SD := (Entails.of_eq (bigSep_dev fun b => sD m c b).symm) $$ [$S0 $S1 $S2 $S3 $S4 $S5 $S6 $S7]
  ihave SD := (own_block m c) $$ SD
  icases SD with ⟨QO, SD⟩
  ihave RP := (Entails.of_eq (bigSep_dev fun t => rP (F := F) c t)) $$ RP
  icases RP with ⟨R0, R1, R2, R3, R4, R5, R6, R7⟩
  iapply (wpb_bind c)
  iapply (part6_wp m c i) $$ [$Hr $HO $QO $OC $VC $TO $R0 $R1 $R2 $R3 $R4]
  iintro ⟨HO, QO, CO, R0, R1, R2, R3, R4⟩
  ihave SD := SD $$ QO
  ihave SD := (Entails.of_eq (bigSep_dev fun b => sD m c b)) $$ SD
  icases SD with ⟨S0, S1, S2, S3, S4, S5, S6, S7⟩
  ihave AN := (Entails.of_eq (bigSep_dev fun b => atPos ER (dcell c (snd b)) 0 ∅ 0)) $$ AN
  icases AN with ⟨N0, N1, N2, N3, N4, N5, N6, N7⟩
  iapply (wpb_bind c)
  iapply (part7_wp m c i) $$ [$Hr $HO $R5 $R6 $R7 $N0 $S0 $N1 $S1 $N2 $S2 $N3 $S3 $N4 $S4 $N5 $S5 $N6 $S6]
  iintro ⟨HO, R5, R6, R7, W0, W1, W2, W3, W4, W5, W6⟩
  ihave RD := (Entails.of_eq (bigSep_dev fun t => rD (F := F) c t).symm) $$ [$R0 $R1 $R2 $R3 $R4 $R5 $R6 $R7]
  ihave RD := (received (F := F) c) $$ [$RD $QC $CO $AO]
  icases RD with ⟨ZV, QR, OP⟩
  ihave OP := (Entails.of_eq (bigSep_dev fun t => oP (F := F) c t)) $$ OP
  icases OP with ⟨O0, O1, O2, O3, O4, O5, O6, O7⟩
  ihave X0 := (show iprop(atPos ER (dcell c (rdS 0)) 0 ∅ 0 ∗ cred (tallyAt (dcell c (rdS 0)) () Nr)) ⊢ xP (F := F) c 0 from Entails.of_eq rfl) $$ [$AS0 $CS0]
  ihave X1 := (show iprop(atPos ER (dcell c (rdS 1)) 0 ∅ 0 ∗ cred (tallyAt (dcell c (rdS 1)) () Nr)) ⊢ xP (F := F) c 1 from Entails.of_eq rfl) $$ [$AS1 $CS1]
  ihave X2 := (show iprop(atPos ER (dcell c (rdS 2)) 0 ∅ 0 ∗ cred (tallyAt (dcell c (rdS 2)) () Nr)) ⊢ xP (F := F) c 2 from Entails.of_eq rfl) $$ [$AS2 $CS2]
  iapply (wpb_bind c)
  iapply (part8_wp m c i) $$ [$Hr $HO $N7 $S7 $X0 $X1 $X2 $O0]
  iintro ⟨HO, W7, X0, X1, X2, O0⟩
  iapply (wpb_bind c)
  iapply (part9_wp m c i) $$ [$Hr $HO $O1 $O2 $O3 $O4 $O5]
  iintro ⟨HO, O1, O2, O3, O4, O5⟩
  iapply (out_wait m c 6 (sem_out 6 rfl) (credit_v _ _)) $$ [$Hr $HO $O6]
  iintro ⟨HO, O6⟩
  iapply (out_wait m c 7 (sem_out 7 rfl) (credit_v _ _)) $$ [$Hr $HO $O7]
  iintro ⟨HO, O7⟩
  iapply (wpb_ret c (PUnit.unit))
  iapply Hk
  isplitl [HO]; · iexact HO
  ihave WD := (Entails.of_eq (bigSep_dev fun b => wD (F := F) c b).symm) $$ [$W0 $W1 $W2 $W3 $W4 $W5 $W6 $W7]
  ihave WD := (sent (F := F) c) $$ WD
  icases WD with ⟨ZS, QS⟩
  ihave OD := (Entails.of_eq (bigSep_dev fun b => oD m c b).symm) $$ [$O0 $O1 $O2 $O3 $O4 $O5 $O6 $O7]
  ihave OD := (stored m c) $$ OD
  icases OD with ⟨ZO, VD, OS⟩
  ihave YD := (Entails.of_eq (bigSep_dev fun j => yAt c j (yv m c j)).symm) $$ [$Y0 $Y1 $Y2 $Y3 $Y4 $Y5 $Y6 $Y7]
  unfold Done xD
  icases X0 with ⟨ZX0, RS0⟩
  icases X1 with ⟨ZX1, RS1⟩
  icases X2 with ⟨ZX2, RS2⟩
  isplitl [ZB]; · iexact ZB
  isplitl [ZX0 ZX1 ZX2 ZR0 ZR1 ZR2]
  · rw [bigSep_three]
    iframe ZX0 ZX1 ZX2 ZR0 ZR1 ZR2
  isplitl [ZS ZV ZO]
  · rw [bigSep_sep', bigSep_sep']
    iframe ZS ZV ZO
  isplitl [YD]
  · iapply (show (bigSep Finset.univ fun j : Dev nD => yAt c j (yv m c j)) ⊢ bigSep Finset.univ fun j : Dev nD => yAny (F := F) c j from
      bigSep_mono fun j _ => any_y c j (yv m c j))
    iexact YD
  isplitl [QS]; · iexact QS
  isplitl [QR]; · iexact QR
  isplitl [OS]; · iexact OS
  isplitl [RS0 RS1 RS2]
  · rw [bigSep_three]
    iframe RS0 RS1 RS2
  isplitl [RR0 RR1 RR2 RR3]
  · rw [bigSep_four]
    isplitl [RR0]; · iexists _; iexact RR0
    isplitl [RR1]; · iexists _; iexact RR1
    isplitl [RR2]; · iexists _; iexact RR2
    iexact RR3
  isplitl [AM]; · iexists _; iexact AM
  iexact VD

end Cert.KernelIdealProof

end
-- ==== Proof.Buffers.lean ====
/-
# Buffers in slots

A buffer held whole is held slot by slot, each with some contents, and the other way round.
-/
module

public import proofs.«01_k».proof.Proof.Last

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Slots

variable (R : Ref sig .tc) {NB : ℕ} (a₀ : Fin R.ty.shape.rank) (w : ℕ) (off : Fin NB → Fin R.ty.shape.rank → ℕ) (size : Fin R.ty.shape.rank → ℕ)
  (inb : ∀ b a, off b a + size a ≤ R.ty.shape.size a)
  (hoff₀ : ∀ b, off b a₀ = w * b.val) (hoff : ∀ b a, a ≠ a₀ → off b a = 0)
  (hsz₀ : size a₀ = w) (hsz : ∀ a, a ≠ a₀ → size a = R.ty.shape.size a) (hN : NB * w = R.ty.shape.size a₀)

/-- Slot `b`'s part of the whole buffer, with some contents. -/
abbrev slotAny (c : Dev nD) (b : Fin NB) : sProp 𝕄 :=
  iprop(∃ X, owns (c : Thread nD τ) (slot (Memref.whole R) (off b) size (inb b)) fullShare X)

theorem slot_set (b : Fin NB) : (slot (Memref.whole R) (off b) size (inb b)).view.set = (Rect.unit (off b) size (inb b)).set :=
  View.set_slice_whole R _

include hoff₀ hoff hsz₀ hsz hN in
theorem slots_split (c : Dev nD) :
    iprop(∃ f : Buf (Elt F) ((c : Thread nD τ).loc R), (c : Thread nD τ).loc R ↦{fullShare} f)
      ⊢ bigSep Finset.univ fun b : Fin NB => slotAny (F := F) R off size inb c b := by
  iintro ⟨%f, H⟩
  ihave H := (Entails.of_eq (Ring.pointsTo_blocks (ℓ := (c : Thread nD τ).loc R) (q := fullShare) (fun b : Fin NB => (Rect.unit (off b) size (inb b)).set)
    (Ring.lead_disjoint a₀ w off size inb hoff₀ hsz₀) (Ring.lead_cover a₀ w off size inb hoff₀ hoff hsz₀ hsz hN) f)) $$ H
  iapply (show (bigSep Finset.univ fun b : Fin NB => ((c : Thread nD τ).loc R ↦[(Rect.unit (off b) size (inb b)).set]{fullShare} f : sProp 𝕄))
      ⊢ bigSep Finset.univ fun b : Fin NB => slotAny (F := F) R off size inb c b from bigSep_mono fun b _ => by
    show ((c : Thread nD τ).loc R ↦[(Rect.unit (off b) size (inb b)).set]{fullShare} f : sProp 𝕄) ⊢ slotAny (F := F) R off size inb c b
    rw [← slot_set R off size inb b]
    iintro H
    iexists _
    unfold owns
    iexists f
    isplitr
    · ipureintro; rfl
    · iexact H) $$ H

include m hoff₀ hoff hsz₀ hsz hN in
theorem slots_join (c : Dev nD) :
    (bigSep Finset.univ fun b : Fin NB => slotAny (F := F) R off size inb c b)
      ⊢ iprop(∃ f : Buf (Elt F) ((c : Thread nD τ).loc R), (c : Thread nD τ).loc R ↦{fullShare} f) := by
  refine BIBase.Entails.trans (bigSep_mono (Ψ := fun b : Fin NB => iprop(∃ f : Buf (Elt F) ((c : Thread nD τ).loc R), (c : Thread nD τ).loc R ↦[(Rect.unit (off b) size (inb b)).set]{fullShare} f)) fun b _ => ?_)
    (Ring.pointsTo_blocks_join_exists (ℓ := (c : Thread nD τ).loc R) (q := fullShare) (fun b : Fin NB => (Rect.unit (off b) size (inb b)).set)
      (Ring.lead_disjoint a₀ w off size inb hoff₀ hsz₀) (Ring.lead_cover a₀ w off size inb hoff₀ hoff hsz₀ hsz hN) (m _))
  show slotAny (F := F) R off size inb c b ⊢ iprop(∃ f : Buf (Elt F) ((c : Thread nD τ).loc R), (c : Thread nD τ).loc R ↦[(Rect.unit (off b) size (inb b)).set]{fullShare} f)
  rw [← slot_set R off size inb b]
  unfold slotAny owns
  iintro ⟨%X, %f, -, H⟩
  iexists f
  iexact H

end Slots

/-- Some contents of device `c`'s whole buffer `R`. -/
abbrev heldAny (c : Dev nD) (R : Ref sig .tc) : sProp 𝕄 :=
  iprop(∃ f : Buf (Elt F) ((c : Thread nD τ).loc R), (c : Thread nD τ).loc R ↦{fullShare} f)

theorem y_split (c : Dev nD) : heldAny (F := F) c cc0_scratch0 ⊢ bigSep Finset.univ fun j : Dev nD => yAny (F := F) c j :=
  slots_split cc0_scratch0 (NB := nD) (1 : Fin 2) 256 (fun j => ![0, 256 * j.val]) S512x256.size inb_y
    (fun _ => rfl) (by decide) rfl (by decide) rfl c
include m in
theorem y_join (c : Dev nD) : (bigSep Finset.univ fun j : Dev nD => yAny (F := F) c j) ⊢ heldAny (F := F) c cc0_scratch0 :=
  slots_join m cc0_scratch0 (NB := nD) (1 : Fin 2) 256 (fun j => ![0, 256 * j.val]) S512x256.size inb_y
    (fun _ => rfl) (by decide) rfl (by decide) rfl c

theorem qs_split (c : Dev nD) : heldAny (F := F) c cc0_scratch1 ⊢ bigSep Finset.univ fun b : Dev nD => qsAny (F := F) c b :=
  slots_split cc0_scratch1 (NB := nD) (0 : Fin 3) 1 (fun b => ![b.val, 0, 0]) S1x512x256.size inb_q
    (fun b => (Nat.one_mul b.val).symm) (by decide) rfl (by decide) rfl c
include m in
theorem qs_join (c : Dev nD) : (bigSep Finset.univ fun b : Dev nD => qsAny (F := F) c b) ⊢ heldAny (F := F) c cc0_scratch1 :=
  slots_join m cc0_scratch1 (NB := nD) (0 : Fin 3) 1 (fun b => ![b.val, 0, 0]) S1x512x256.size inb_q
    (fun b => (Nat.one_mul b.val).symm) (by decide) rfl (by decide) rfl c

theorem qr_split (c : Dev nD) : heldAny (F := F) c cc0_scratch2 ⊢ bigSep Finset.univ fun t : Dev nD => qrAny (F := F) c t :=
  slots_split cc0_scratch2 (NB := nD) (0 : Fin 3) 1 (fun b => ![b.val, 0, 0]) S1x512x256.size inb_q
    (fun b => (Nat.one_mul b.val).symm) (by decide) rfl (by decide) rfl c
include m in
theorem qr_join (c : Dev nD) : (bigSep Finset.univ fun t : Dev nD => qrAny (F := F) c t) ⊢ heldAny (F := F) c cc0_scratch2 :=
  slots_join m cc0_scratch2 (NB := nD) (0 : Fin 3) 1 (fun b => ![b.val, 0, 0]) S1x512x256.size inb_q
    (fun b => (Nat.one_mul b.val).symm) (by decide) rfl (by decide) rfl c

theorem os_split (c : Dev nD) : heldAny (F := F) c cc0_scratch3 ⊢ bigSep Finset.univ fun t : Dev nD => osAny (F := F) c t :=
  slots_split cc0_scratch3 (NB := nD) (0 : Fin 3) 1 (fun b => ![b.val, 0, 0]) S1x512x256.size inb_q
    (fun b => (Nat.one_mul b.val).symm) (by decide) rfl (by decide) rfl c
include m in
theorem os_join (c : Dev nD) : (bigSep Finset.univ fun t : Dev nD => osAny (F := F) c t) ⊢ heldAny (F := F) c cc0_scratch3 :=
  slots_join m cc0_scratch3 (NB := nD) (0 : Fin 3) 1 (fun b => ![b.val, 0, 0]) S1x512x256.size inb_q
    (fun b => (Nat.one_mul b.val).symm) (by decide) rfl (by decide) rfl c

theorem rds_split (c : Dev nD) : heldAny (F := F) c cc0_scratch4 ⊢ bigSep Finset.univ fun r : Fin 3 => rdsAny (F := F) c r :=
  slots_split cc0_scratch4 (NB := 3) (0 : Fin 2) 1 (fun r => ![r.val, 0]) S1x128.size inb_s
    (fun r => (Nat.one_mul r.val).symm) (by decide) rfl (by decide) rfl c
include m in
theorem rds_join (c : Dev nD) : (bigSep Finset.univ fun r : Fin 3 => rdsAny (F := F) c r) ⊢ heldAny (F := F) c cc0_scratch4 :=
  slots_join m cc0_scratch4 (NB := 3) (0 : Fin 2) 1 (fun r => ![r.val, 0]) S1x128.size inb_s
    (fun r => (Nat.one_mul r.val).symm) (by decide) rfl (by decide) rfl c

theorem rdr_split (c : Dev nD) : heldAny (F := F) c cc0_scratch5 ⊢ bigSep Finset.univ fun r : Fin 4 => rdrAny (F := F) c r :=
  slots_split cc0_scratch5 (NB := 4) (0 : Fin 2) 1 (fun r => ![r.val, 0]) S1x128.size inb_r
    (fun r => (Nat.one_mul r.val).symm) (by decide) rfl (by decide) rfl c
include m in
theorem rdr_join (c : Dev nD) : (bigSep Finset.univ fun r : Fin 4 => rdrAny (F := F) c r) ⊢ heldAny (F := F) c cc0_scratch5 :=
  slots_join m cc0_scratch5 (NB := 4) (0 : Fin 2) 1 (fun r => ![r.val, 0]) S1x128.size inb_r
    (fun r => (Nat.one_mul r.val).symm) (by decide) rfl (by decide) rfl c

theorem am_split (c : Dev nD) : heldAny (F := F) c cc0_scratch6 ⊢ amAny (F := F) c :=
  (slots_split cc0_scratch6 (NB := 1) (0 : Fin 2) 1 (fun _ : Fin 1 => (![0, 0] : Fin 2 → ℕ)) S1x128.size (fun _ => inb_a)
    (by decide) (by decide) rfl (by decide) rfl c).trans (bigSep_elim (Finset.mem_univ 0))
include m in
theorem am_join (c : Dev nD) : amAny (F := F) c ⊢ heldAny (F := F) c cc0_scratch6 :=
  (Entails.of_eq (bigSep_singleton (i := (0 : Fin 1)) (Φ := fun _ => amAny (F := F) c)).symm).trans
    (slots_join m cc0_scratch6 (NB := 1) (0 : Fin 2) 1 (fun _ : Fin 1 => (![0, 0] : Fin 2 → ℕ)) S1x128.size (fun _ => inb_a)
      (by decide) (by decide) rfl (by decide) rfl c)

theorem v1_split (c : Dev nD) : heldAny (F := F) c main_v1 ⊢ bigSep Finset.univ fun t : Dev nD => v1Any (F := F) c t :=
  slots_split main_v1 (NB := nD) (0 : Fin 2) 512 (fun t => ![512 * t.val, 0]) S512x256.size inb_v
    (fun _ => rfl) (by decide) rfl (by decide) rfl c

/-- One block of the result's rows, read off the memory. -/
theorem v1_read_one (c t : Dev nD) {st : Phys nD τ sig (Elt F)} (X : Vec F S512x256 .f32) :
    iprop(v1At c t X ∗ SI st)
      ⊢ (iprop(⌜(slot v1M ![512 * t.val, 0] S512x256.size (inb_v t)).view.read (Elt F) (st.mem.mem ((c : Thread nD τ).loc main_v1)) = X⌝ ∗ SI st) : sProp 𝕄) := by
  unfold v1At owns
  iintro ⟨⟨%f, %hf, H⟩, HSI⟩
  icombine HSI H gives %h
  isplitr
  · ipureintro
    rw [← hf]
    exact View.read_congr h
  · iexact HSI

/-- The result's rows, read off the memory. -/
theorem v1_read (c : Dev nD) {st : Phys nD τ sig (Elt F)} (X : Dev nD → Vec F S512x256 .f32) :
    iprop((bigSep Finset.univ fun t : Dev nD => v1At c t (X t)) ∗ SI st)
      ⊢ (iprop(⌜∀ t : Dev nD, (slot v1M ![512 * t.val, 0] S512x256.size (inb_v t)).view.read (Elt F) (st.mem.mem ((c : Thread nD τ).loc main_v1)) = X t⌝ ∗ SI st) : sProp 𝕄) := by
  rw [bigSep_dev]
  iintro ⟨⟨H0, H1, H2, H3, H4, H5, H6, H7⟩, HSI⟩
  ihave G := (v1_read_one c 0 (X 0)) $$ [$H0 $HSI]
  icases G with ⟨%h0, HSI⟩
  ihave G := (v1_read_one c 1 (X 1)) $$ [$H1 $HSI]
  icases G with ⟨%h1, HSI⟩
  ihave G := (v1_read_one c 2 (X 2)) $$ [$H2 $HSI]
  icases G with ⟨%h2, HSI⟩
  ihave G := (v1_read_one c 3 (X 3)) $$ [$H3 $HSI]
  icases G with ⟨%h3, HSI⟩
  ihave G := (v1_read_one c 4 (X 4)) $$ [$H4 $HSI]
  icases G with ⟨%h4, HSI⟩
  ihave G := (v1_read_one c 5 (X 5)) $$ [$H5 $HSI]
  icases G with ⟨%h5, HSI⟩
  ihave G := (v1_read_one c 6 (X 6)) $$ [$H6 $HSI]
  icases G with ⟨%h6, HSI⟩
  ihave G := (v1_read_one c 7 (X 7)) $$ [$H7 $HSI]
  icases G with ⟨%h7, HSI⟩
  isplitr
  · ipureintro
    intro t
    fin_cases t
    exacts [h0, h1, h2, h3, h4, h5, h6, h7]
  · iexact HSI

end Cert.KernelIdealProof

end
-- ==== Proof.Ghost.lean ====
/-
# The launch: semaphores, tokens and credits dealt to the devices

The kernel's 31 semaphores on every device get their invariants; each device keeps the positions on its own and is
dealt the tokens of the duties it pays; what the devices owe each other gives each the credits it waits with.
-/
module

public import proofs.«01_k».proof.Proof.Buffers

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores, by what they are for -/

theorem csem_injective : ∀ k k' : Fin 31, csem k = csem k' → k = k' := by decide

theorem kcell_injective : Function.Injective (kcell : Dev nD × Fin 31 → GSem nD τ sig) := by
  rintro ⟨c, k⟩ ⟨c', k'⟩ h
  have h1 : c = c' := congrArg (fun g : GSem nD τ sig => g.1.1) h
  have h2 : k = k' := csem_injective k k' (congrArg Prod.snd h)
  rw [h1, h2]

theorem regroup_sep (P Q R : sProp 𝕄) : iprop((P ∗ Q) ∗ R) = iprop(P ∗ Q ∗ R) := BI.equiv_iff.mp ⟨BI.sep_assoc, BI.sep_assoc'⟩

/-- A family over two indices, in either order. -/
theorem swap {I J : Type} [Fintype I] [Fintype J] [DecidableEq I] [DecidableEq J] (Φ : I → J → sProp 𝕄) :
    (bigSep Finset.univ fun i => bigSep Finset.univ fun j => Φ i j) = bigSep Finset.univ fun j => bigSep Finset.univ fun i => Φ i j := by
  rw [← bigSep_univ_prod fun x : I × J => Φ x.1 x.2, ← bigSep_univ_prod fun x : J × I => Φ x.2 x.1, bigSep_univ_equiv (Equiv.prodComm J I)]
  rfl

theorem cells_split (Φ : SemLoc sig → sProp 𝕄) :
    (bigSep Finset.univ fun k : Fin 31 => Φ (csem k))
      = iprop(Φ (.reg barS) ∗ (bigSep Finset.univ fun r : Fin 3 => Φ (.dma (rdS r))) ∗ (bigSep Finset.univ fun r : Fin 3 => Φ (.dma (rdR r)))
        ∗ (bigSep Finset.univ fun b : Dev nD => Φ (.dma (snd b))) ∗ (bigSep Finset.univ fun t : Dev nD => Φ (.dma (rcv t)))
        ∗ bigSep Finset.univ fun t : Dev nD => Φ (.dma (out t))) := by
  rw [bigSep_univ_eq_bigSepL [0, 1, 2, 3, 4, 5, 6, 7, 8, 9, 10, 11, 12, 13, 14, 15, 16, 17, 18, 19, 20, 21, 22, 23, 24, 25, 26, 27, 28, 29, 30] (by decide) (by decide),
    bigSep_three, bigSep_three, bigSep_dev, bigSep_dev, bigSep_dev]
  simp only [regroup_sep]
  rfl

/-- The kernel's semaphores on device `c`, as launched. -/
theorem own_split (Φ : SemLoc sig → sProp 𝕄) :
    (bigSep Finset.univ fun k : Fin 31 => Φ (csem k)) = iprop(Φ (.reg barS) ∗ bigSep Finset.univ fun k : Fin 30 => Φ (osem k)) := by
  rw [bigSep_univ_eq_bigSepL [0, 1, 2, 3, 4, 5, 6, 7, 8, 9, 10, 11, 12, 13, 14, 15, 16, 17, 18, 19, 20, 21, 22, 23, 24, 25, 26, 27, 28, 29, 30] (by decide) (by decide),
    bigSep_univ_eq_bigSepL [0, 1, 2, 3, 4, 5, 6, 7, 8, 9, 10, 11, 12, 13, 14, 15, 16, 17, 18, 19, 20, 21, 22, 23, 24, 25, 26, 27, 28, 29] (by decide) (by decide)]
  rfl

theorem ownSemFacts : Pipeline.OwnSemFacts cfg0.spec osem := by decide

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun k : Fin 31 => semVal (kcell (c, k)) 0 : sProp 𝕄)
      = iprop(unscopedSems0 c ∗ Pipeline.ownSems0 (Ix := Unit) (Name := ℕ) (U := UU) (Lvl := ℕ) (Val := Elt F) (τ := τ) osem c) := by
  rw [unscopedSems0_eq]
  exact own_split fun s => semVal ((c : Thread nD τ), s) 0

/-! ## Minting -/

def ringCells : Finset (GSem nD τ sig) := Finset.univ.map ⟨kcell, kcell_injective⟩

abbrev tokOf (x : (Dev nD × Fin 31) × Dev nD) : GSem nD τ sig × ℕ × Dev nD := (kcell x.1, 0, x.2)
theorem tokOf_injective : Function.Injective tokOf := by
  rintro ⟨k, d⟩ ⟨k', d'⟩ h
  have h1 : k = k' := kcell_injective (congrArg Prod.fst h)
  have h2 : d = d' := congrArg (fun x => x.2.2) h
  rw [h1, h2]
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- All tokens of device `c`'s own semaphores. -/
def toks (c : Dev nD) : sProp 𝕄 :=
  bigSep Finset.univ fun k : Fin 31 => bigSep Finset.univ fun d : Dev nD => dutyTok ER (kcell (c, k)) 0 d

/-- What device `c` is dealt at first. -/
def G (c : Dev nD) : sProp 𝕄 :=
  iprop((bigSep Finset.univ fun k : Fin 31 => roundState ER (Rd m) (kcell (c, k)) 0)
    ∗ (bigSep Finset.univ fun k : Fin 31 => iprop(atPos ER (kcell (c, k)) 0 ∅ 0 ∗ reached ER (kcell (c, k)) 0)) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 31 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [$Hus $Hos]
  imod (show iprop((bigSep Finset.univ fun k : Fin 31 => semVal (kcell (c, k)) 0) ∗ bigSep Finset.univ fun k : Fin 31 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  iframe Hinv Hat Htok

/-! ## Dealing -/

/-- The positions of device `c` on its semaphores. -/
def posn (c : Dev nD) : sProp 𝕄 :=
  iprop(atPos ER (barCell c) 0 ∅ 0 ∗ (bigSep Finset.univ fun r : Fin 3 => atPos ER (dcell c (rdS r)) 0 ∅ 0) ∗ (bigSep Finset.univ fun r : Fin 3 => atPos ER (dcell c (rdR r)) 0 ∅ 0)
    ∗ (bigSep Finset.univ fun b : Dev nD => atPos ER (dcell c (snd b)) 0 ∅ 0) ∗ (bigSep Finset.univ fun t : Dev nD => atPos ER (dcell c (rcv t)) 0 ∅ 0)
    ∗ bigSep Finset.univ fun t : Dev nD => atPos ER (dcell c (out t)) 0 ∅ 0)
/-- The tokens in use of device `c`'s semaphores, -/
def ownToks (c : Dev nD) : sProp 𝕄 :=
  iprop((bigSep Finset.univ fun d : Dev nD => dutyTok ER (barCell c) 0 d) ∗ (bigSep Finset.univ fun r : Fin 3 => dutyTok ER (dcell c (rdS r)) 0 0)
    ∗ (bigSep Finset.univ fun r : Fin 3 => dutyTok ER (dcell c (rdR r)) 0 0) ∗ (bigSep Finset.univ fun b : Dev nD => dutyTok ER (dcell c (snd b)) 0 0)
    ∗ (bigSep Finset.univ fun t : Dev nD => dutyTok ER (dcell c (rcv t)) 0 0) ∗ bigSep Finset.univ fun t : Dev nD => dutyTok ER (dcell c (out t)) 0 0)
/-- and those of the duties device `c` pays. -/
def payToks (c : Dev nD) : sProp 𝕄 :=
  iprop((bigSep Finset.univ fun b : Dev nD => dutyTok ER (barCell b) 0 c) ∗ (bigSep Finset.univ fun r : Fin 3 => dutyTok ER (dcell c (rdS r)) 0 0)
    ∗ (bigSep Finset.univ fun r : Fin 3 => dutyTok ER (dcell (px r c) (rdR r)) 0 0) ∗ (bigSep Finset.univ fun b : Dev nD => dutyTok ER (dcell c (snd b)) 0 0)
    ∗ (bigSep Finset.univ fun b : Dev nD => dutyTok ER (dcell b (rcv c)) 0 0) ∗ bigSep Finset.univ fun t : Dev nD => dutyTok ER (dcell c (out t)) 0 0)

/-- What the common step leaves device `c`. -/
def G' (c : Dev nD) : sProp 𝕄 := iprop((∃ K, records m K) ∗ posn (F := F) c ∗ payToks (F := F) c)

theorem posn_intro (c : Dev nD) : (bigSep Finset.univ fun k : Fin 31 => (atPos ER (kcell (c, k)) 0 ∅ 0 : sProp 𝕄)) ⊢ posn c :=
  Entails.of_eq (cells_split fun s => atPos ER ((c : Thread nD τ), s) 0 ∅ 0)

theorem drop_toks {I : Type} [Fintype I] [DecidableEq I] (g : I → GSem nD τ sig) :
    (bigSep Finset.univ fun i : I => bigSep Finset.univ fun d : Dev nD => (dutyTok ER (g i) 0 d : sProp 𝕄)) ⊢ bigSep Finset.univ fun i : I => dutyTok ER (g i) 0 (0 : Dev nD) :=
  bigSep_mono fun i _ => bigSep_elim (Finset.mem_univ 0)

theorem ownToks_intro (c : Dev nD) : toks c ⊢ (ownToks c : sProp 𝕄) := by
  refine (Entails.of_eq (cells_split fun s => bigSep Finset.univ fun d : Dev nD => dutyTok ER ((c : Thread nD τ), s) 0 d)).trans ?_
  unfold ownToks
  iintro ⟨H1, H2, H3, H4, H5, H6⟩
  isplitl [H1]; · iexact H1
  isplitl [H2]; · iapply (drop_toks (F := F) fun r : Fin 3 => dcell c (rdS r)); iexact H2
  isplitl [H3]; · iapply (drop_toks (F := F) fun r : Fin 3 => dcell c (rdR r)); iexact H3
  isplitl [H4]; · iapply (drop_toks (F := F) fun b : Dev nD => dcell c (snd b)); iexact H4
  isplitl [H5]; · iapply (drop_toks (F := F) fun b : Dev nD => dcell c (rcv b)); iexact H5
  iapply (drop_toks (F := F) fun b : Dev nD => dcell c (out b)); iexact H6

theorem toks_around : (bigSep Finset.univ fun c : Dev nD => (ownToks c : sProp 𝕄)) ⊢ bigSep Finset.univ fun c : Dev nD => payToks c := by
  have hB : (bigSep Finset.univ fun c : Dev nD => bigSep Finset.univ fun d : Dev nD => (dutyTok ER (barCell c) 0 d : sProp 𝕄))
      = bigSep Finset.univ fun c : Dev nD => bigSep Finset.univ fun b : Dev nD => dutyTok ER (barCell b) 0 c := swap _
  have hV : (bigSep Finset.univ fun c : Dev nD => bigSep Finset.univ fun t : Dev nD => (dutyTok ER (dcell c (rcv t)) 0 (0 : Dev nD) : sProp 𝕄))
      = bigSep Finset.univ fun c : Dev nD => bigSep Finset.univ fun b : Dev nD => dutyTok ER (dcell b (rcv c)) 0 (0 : Dev nD) := swap _
  have hR : (bigSep Finset.univ fun c : Dev nD => bigSep Finset.univ fun r : Fin 3 => (dutyTok ER (dcell c (rdR r)) 0 (0 : Dev nD) : sProp 𝕄))
      = bigSep Finset.univ fun c : Dev nD => bigSep Finset.univ fun r : Fin 3 => dutyTok ER (dcell (px r c) (rdR r)) 0 (0 : Dev nD) := by
    rw [swap (fun (c : Dev nD) (r : Fin 3) => (dutyTok ER (dcell c (rdR r)) 0 (0 : Dev nD) : sProp 𝕄)),
      swap (fun (c : Dev nD) (r : Fin 3) => (dutyTok ER (dcell (px r c) (rdR r)) 0 (0 : Dev nD) : sProp 𝕄))]
    exact bigSep_congr fun r _ => bigSep_univ_equiv (pxE r) (fun c : Dev nD => (dutyTok ER (dcell c (rdR r)) 0 (0 : Dev nD) : sProp 𝕄))
  unfold ownToks payToks
  simp only [bigSep_sep']
  rw [hB, hV, hR]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 31 => iprop(∃ κ : ℕ, cellInv ER (Rd m) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄))]
  iintro ⟨HI, ⟨Hat, #HR⟩, Htok⟩
  ihave HK := (BI.bigSep_exists_pi Finset.univ (fun (ck : Dev nD × Fin 31) (κ : ℕ) => (cellInv ER (Rd m) κ (kcell ck) : sProp 𝕄))) $$ HI
  icases HK with ⟨%K, #HI⟩
  ihave Htk := ((show (bigSep Finset.univ fun c : Dev nD => (toks c : sProp 𝕄)) ⊢ bigSep Finset.univ fun c : Dev nD => ownToks c from
    bigSep_mono fun c _ => ownToks_intro c).trans (toks_around (F := F))) $$ Htok
  ihave Hat := (show (bigSep Finset.univ fun c : Dev nD => bigSep Finset.univ fun k : Fin 31 => (atPos ER (kcell (c, k)) 0 ∅ 0 : sProp 𝕄)) ⊢ bigSep Finset.univ fun c : Dev nD => posn c from
    bigSep_mono fun c _ => posn_intro c) $$ Hat
  iapply (with_persistent (R := records m K) (Φ := fun c => iprop(posn (F := F) c ∗ payToks (F := F) c)) fun c _ => by
    unfold G'
    iintro ⟨H1, H2⟩
    isplitl [H1]; · iexists K; iexact H1
    iexact H2)
  isplitr
  · unfold records; isplitl; · iexact HI
    iexact HR
  · rw [bigSep_sep']
    iframe Hat Htk

/-- The common step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the launch -/

theorem barOwe_bar (d b c : Dev nD) : barOwe d b (barCell c) () = if b = c then (if d = c then 0 else 1) else 0 := by
  unfold barOwe
  by_cases h : b = c
  · subst h
    rw [if_pos rfl]
    by_cases hd : d = b
    · rw [if_pos hd, if_pos hd]; rfl
    · rw [if_neg hd, if_neg hd, tallyAt_apply, if_pos ⟨rfl, rfl⟩]
  · rw [if_neg h]
    split
    · rfl
    · rw [tallyAt_apply, if_neg fun h' => h (congrArg (fun g : GSem nD τ sig => g.1.1) h'.1).symm]
theorem barOwe_dma (d b c : Dev nD) (q : DmaSem sig) : barOwe d b (dcell c q) () = 0 := by
  unfold barOwe
  split
  · rfl
  · rw [tallyAt_apply, if_neg fun h' => by have := congrArg Prod.snd h'.1; cases this]
theorem rdOwe_bar (d c : Dev nD) (r : Fin 3) : rdOwe d r (barCell c) () = 0 := by
  unfold rdOwe
  rw [tallyAt_apply, if_neg fun h' => by have := congrArg Prod.snd h'.1; cases this]
theorem qOwe_bar (d b c : Dev nD) : qOwe d b (barCell c) () = 0 := by
  unfold qOwe
  split
  · rfl
  · rw [tallyAt_apply, if_neg fun h' => by have := congrArg Prod.snd h'.1; cases this]
theorem role_of_eq {g g' : GSem nD τ sig} (h : g = g') : roleOf g.2 = roleOf g'.2 := by rw [h]
theorem rdOwe_rdR (d c : Dev nD) (r r' : Fin 3) : rdOwe d r' (dcell c (rdR r)) () = if r' = r then (if d = px r c then Nr else 0) else 0 := by
  unfold rdOwe
  rw [tallyAt_apply]
  by_cases h : r' = r
  · subst h
    rw [if_pos rfl]
    by_cases hd : d = px r' c
    · subst hd; rw [px_px, if_pos ⟨rfl, rfl⟩, if_pos rfl]
    · rw [if_neg hd, if_neg fun h' => hd (by rw [show c = px r' d from congrArg (fun g : GSem nD τ sig => g.1.1) h'.1, px_px])]
  · rw [if_neg h, if_neg fun h' => h (by
      have := role_of_eq h'.1
      rw [roleOf_rdR, roleOf_rdR] at this
      exact (Role.rdR.inj this).symm)]
theorem rdOwe_rcv (d c t : Dev nD) (r : Fin 3) : rdOwe d r (dcell c (rcv t)) () = 0 := by
  unfold rdOwe
  rw [tallyAt_apply, if_neg fun h' => by
    have := role_of_eq h'.1
    rw [roleOf_rdR, roleOf_rcv] at this
    exact nomatch this]
theorem qOwe_rdR (d b c : Dev nD) (r : Fin 3) : qOwe d b (dcell c (rdR r)) () = 0 := by
  unfold qOwe
  split
  · rfl
  · rw [tallyAt_apply, if_neg fun h' => by
      have := role_of_eq h'.1
      rw [roleOf_rdR, roleOf_rcv] at this
      exact nomatch this]
theorem qOwe_rcv (d b c t : Dev nD) (hct : c ≠ t) : qOwe d b (dcell c (rcv t)) () = if b = c then (if d = t then Nq else 0) else 0 := by
  unfold qOwe
  by_cases h : b = c
  · subst h
    rw [if_pos rfl]
    by_cases hd : d = t
    · subst hd; rw [if_pos rfl, if_neg hct.symm, tallyAt_apply, if_pos ⟨rfl, rfl⟩]
    · rw [if_neg hd]
      split
      · rfl
      · rw [tallyAt_apply, if_neg fun h' => hd (by
          have := role_of_eq h'.1
          rw [roleOf_rcv, roleOf_rcv] at this
          exact (Role.rcv.inj this).symm)]
  · rw [if_neg h]
    split
    · rfl
    · rw [tallyAt_apply, if_neg fun h' => h (congrArg (fun g : GSem nD τ sig => g.1.1) h'.1).symm]

theorem OB_apply (d : Dev nD) (g : GSem nD τ sig) :
    OB d 8 g () = ∑ b : Dev nD, barOwe d b g () + ∑ r : Fin 3, rdOwe d r g () + ∑ b : Dev nD, qOwe d b g () := by
  rw [OB_eq_sum]
  simp only [Pi.add_apply, Finsupp.add_apply, Finset.sum_apply, Finsupp.finset_sum_apply]

theorem owed_bar (d c : Dev nD) : OB d 8 (barCell c) () = if d = c then 0 else 1 := by
  rw [OB_apply]
  simp only [barOwe_bar, rdOwe_bar, qOwe_bar, Finset.sum_const_zero, Nat.add_zero, Finset.sum_ite_eq', Finset.mem_univ, if_true]
theorem owed_rdR (d c : Dev nD) (r : Fin 3) : OB d 8 (dcell c (rdR r)) () = if d = px r c then Nr else 0 := by
  rw [OB_apply]
  simp only [barOwe_dma, rdOwe_rdR, qOwe_rdR, Finset.sum_const_zero, Nat.add_zero, Nat.zero_add, Finset.sum_ite_eq', Finset.mem_univ, if_true]
theorem owed_rcv (d c t : Dev nD) (h : c ≠ t) : OB d 8 (dcell c (rcv t)) () = if d = t then Nq else 0 := by
  rw [OB_apply]
  simp only [barOwe_dma, rdOwe_rcv, qOwe_rcv _ _ _ _ h, Finset.sum_const_zero, Nat.add_zero, Nat.zero_add, Finset.sum_ite_eq', Finset.mem_univ, if_true]

abbrev O₀ (c : Dev nD) : CellTallies nD τ sig Unit := OB c 8

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem launch_bar (c : Dev nD) : tallyOn (barCell c) (launchCredit (Pipeline.owing O₀) 0 (barCell c)) = (tallyAt (barCell c) () 7 : CellTallies nD τ sig Unit) :=
  launch_at _ _ (by rw [Finset.sum_congr rfl fun d _ => owed_bar d c]; revert c; decide)
theorem launch_rdR (c : Dev nD) (r : Fin 3) :
    tallyOn (dcell c (rdR r)) (launchCredit (Pipeline.owing O₀) 0 (dcell c (rdR r))) = (tallyAt (dcell c (rdR r)) () Nr : CellTallies nD τ sig Unit) :=
  launch_at _ _ (by rw [Finset.sum_congr rfl fun d _ => owed_rdR d c r, Finset.sum_ite_eq' Finset.univ (px r c) fun _ => Nr, if_pos (Finset.mem_univ _)])
theorem launch_rcv (c t : Dev nD) (h : c ≠ t) :
    tallyOn (dcell c (rcv t)) (launchCredit (Pipeline.owing O₀) 0 (dcell c (rcv t))) = (tallyAt (dcell c (rcv t)) () Nq : CellTallies nD τ sig Unit) :=
  launch_at _ _ (by rw [Finset.sum_congr rfl fun d _ => owed_rcv d c t h, Finset.sum_ite_eq' Finset.univ t fun _ => Nq, if_pos (Finset.mem_univ _)])

/-- The credits device `c` waits with: seven units of the barrier, each partner's row, each other device's block. -/
def creds (c : Dev nD) : sProp 𝕄 :=
  iprop(cred (tallyAt (barCell c) () 7) ∗ (bigSep Finset.univ fun r : Fin 3 => cred (tallyAt (dcell c (rdR r)) () Nr))
    ∗ bigSep Finset.univ fun t : Dev nD => if c = t then iprop(emp) else cred (tallyAt (dcell c (rcv t)) () Nq))

theorem creds_intro (c : Dev nD) : (Pipeline.launchCred O₀ c : sProp 𝕄) ⊢ creds c := by
  unfold Pipeline.launchCred creds
  refine BIBase.Entails.trans (bigSep_subset (t := Finset.univ.map ⟨csem, fun k k' => csem_injective k k'⟩) (Finset.subset_univ _)) ?_
  rw [bigSep_map]
  refine (Entails.of_eq (cells_split fun s => cred (tallyOn ((c : Thread nD τ), s) (launchCredit (Pipeline.owing O₀) 0 ((c : Thread nD τ), s))))).trans ?_
  iintro ⟨H1, -, H3, -, H5, -⟩
  isplitl [H1]; · rw [launch_bar]; iexact H1
  isplitl [H3]
  · iapply (show (bigSep Finset.univ fun r : Fin 3 => (cred (tallyOn (dcell c (rdR r)) (launchCredit (Pipeline.owing O₀) 0 (dcell c (rdR r)))) : sProp 𝕄))
      ⊢ bigSep Finset.univ fun r : Fin 3 => cred (tallyAt (dcell c (rdR r)) () Nr) from bigSep_mono fun r _ => by
        show (cred (tallyOn (dcell c (rdR r)) (launchCredit (Pipeline.owing O₀) 0 (dcell c (rdR r)))) : sProp 𝕄) ⊢ cred (tallyAt (dcell c (rdR r)) () Nr)
        rw [launch_rdR])
    iexact H3
  iapply (show (bigSep Finset.univ fun t : Dev nD => (cred (tallyOn (dcell c (rcv t)) (launchCredit (Pipeline.owing O₀) 0 (dcell c (rcv t)))) : sProp 𝕄))
      ⊢ bigSep Finset.univ fun t : Dev nD => if c = t then iprop(emp) else cred (tallyAt (dcell c (rcv t)) () Nq) from bigSep_mono fun t _ => by
        show (cred (tallyOn (dcell c (rcv t)) (launchCredit (Pipeline.owing O₀) 0 (dcell c (rcv t)))) : sProp 𝕄) ⊢ if c = t then iprop(emp) else cred (tallyAt (dcell c (rcv t)) () Nq)
        by_cases h : c = t
        · rw [if_pos h]; iintro -; iempintro
        · rw [if_neg h, launch_rcv c t h])
  iexact H5

end Cert.KernelIdealProof

end
-- ==== Proof.Run.lean ====
/-
# The run

The nine points one after the other, the launch around them, and what every run of the kernel ends in.
-/
module

public import proofs.«01_k».proof.Proof.Ghost
public import Idealize.ShloMosaic.Lib.Pipeline.CollectiveSegs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

/-! ## Between the points -/

/-- The column blocks before point `n`: those below `n` computed. -/
def Ys (c : Dev nD) (n : ℕ) : sProp 𝕄 :=
  bigSep Finset.univ fun j : Dev nD => if j.val < n then yAt c j (yv m c j) else yAny (F := F) c j

theorem Ys_zero (c : Dev nD) : (bigSep Finset.univ fun j : Dev nD => yAny (F := F) c j) ⊢ Ys m c 0 :=
  Entails.of_eq (bigSep_congr fun j _ => (if_neg (Nat.not_lt_zero _)).symm)
theorem Ys_eight (c : Dev nD) : Ys m c 8 ⊢ bigSep Finset.univ fun j : Dev nD => yAt c j (yv m c j) :=
  Entails.of_eq (bigSep_congr fun j _ => if_pos j.isLt)
theorem Ys_step (c j : Dev nD) (n : ℕ) (hj : j.val = n) : Ys m c n ⊢ iprop(yAny (F := F) c j ∗ (yAt c j (yv m c j) -∗ Ys m c (n + 1))) := by
  subst hj
  unfold Ys
  refine (take j _).trans ?_
  rw [if_neg (Nat.lt_irrefl _), show (bigSep (Finset.univ.erase j) fun i : Dev nD => if i.val < j.val then yAt c i (yv m c i) else yAny (F := F) c i)
    = bigSep (Finset.univ.erase j) fun i : Dev nD => if i.val < j.val + 1 then yAt c i (yv m c i) else yAny (F := F) c i from
    bigSep_congr fun i hi => by
      have hne : i.val ≠ j.val := fun h => (Finset.mem_erase.mp hi).1 (Fin.ext h)
      by_cases h : i.val < j.val
      · rw [if_pos h, if_pos (by omega)]
      · rw [if_neg h, if_neg (by omega)]]
  iintro ⟨H1, H2⟩
  isplitl [H1]; · iexact H1
  iintro H
  iapply (put j fun i : Dev nD => if i.val < j.val + 1 then yAt c i (yv m c i) else yAny (F := F) c i)
  rw [if_pos (Nat.lt_succ_self _)]
  isplitl [H] <;> iassumption

/-- What device `c` has before point `n`, -/
def PhiAt (c : Dev nD) : ℕ → sProp 𝕄
  | 0 => iprop(recs m ∗ Mid (F := F) c ∗ (bigSep Finset.univ fun b : Dev nD => bP (F := F) c b) ∗ (bigSep Finset.univ fun j : Dev nD => yAny (F := F) c j) ∗ amAny (F := F) c)
  | n + 1 => if n < 8 then iprop(recs m ∗ Mid (F := F) c ∗ Ys m c (n + 1) ∗ amAt c (amv m c n)) else Done m c
/-- and what it owes then. -/
def oweAt (c : Dev nD) : ℕ → CellTallies nD τ sig Unit
  | 0 => OB c 8
  | n + 1 => if n < 8 then OR c 3 else 0

theorem PhiAt_zero (c : Dev nD) : PhiAt m c 0 = iprop(recs m ∗ Mid (F := F) c ∗ (bigSep Finset.univ fun b : Dev nD => bP (F := F) c b) ∗ (bigSep Finset.univ fun j : Dev nD => yAny (F := F) c j) ∗ amAny (F := F) c) := rfl
theorem PhiAt_succ (c : Dev nD) (n : ℕ) (h : n < 8) : PhiAt m c (n + 1) = iprop(recs m ∗ Mid (F := F) c ∗ Ys m c (n + 1) ∗ amAt c (amv m c n)) := if_pos h
theorem PhiAt_last (c : Dev nD) : PhiAt m c 9 = Done m c := by unfold PhiAt; exact if_neg (Nat.lt_irrefl 8)
theorem oweAt_zero (c : Dev nD) : oweAt c 0 = OB c 8 := rfl
theorem oweAt_succ (c : Dev nD) (n : ℕ) (h : n < 8) : oweAt c (n + 1) = OR c 3 := if_pos h
theorem oweAt_last (c : Dev nD) : oweAt c 9 = 0 := by unfold oweAt; exact if_neg (Nat.lt_irrefl 8)

theorem coords_val : ∀ t : Fin grid0.N, ((grid0.coords t) 0).val = t.val := by decide

/-- A point's call. -/
abbrev callAt (t : Fin cfg0.N) (a1 : Memref sig .tc .vmem S512x4096 .f32) (h1 : a1.IsWhole) (a2 : Memref sig .tc .vmem S4096x256 .f32) (h2 : a2.IsWhole) :
    Prog (TpuEff nD τ sig (Elt F) Λ₀ .tc) PUnit :=
  cc0_body (F := F) (grid0.coords t) a1 h1 a2 h2 v1M (Memref.isWhole_whole _) yM (Memref.isWhole_whole _) qsM (Memref.isWhole_whole _) qrM (Memref.isWhole_whole _) osM (Memref.isWhole_whole _) rdsM (Memref.isWhole_whole _) rdrM (Memref.isWhole_whole _) amM (Memref.isWhole_whole _) cc0_scratch7 cc0_scratch8 cc0_scratch9 cc0_scratch10 cc0_scratch11

/-- Every point takes what a device has before it to what it has after it. -/
theorem point_wp (c : Dev nD) (t : Fin cfg0.N) {a1 : Memref sig .tc .vmem S512x4096 .f32} {h1 : a1.IsWhole} {a2 : Memref sig .tc .vmem S4096x256 .f32} {h2 : a2.IsWhole}
    {Q : PUnit → sProp 𝕄} :
    iprop(PhiAt m c t.val ∗ owesE (F := F) c (oweAt c t.val) ∗ owns (c : Thread nD τ) a1 fullShare (xv m c) ∗ owns (c : Thread nD τ) a2 fullShare (wv m c t.val))
      ⊢ iprop(((PhiAt m c (t.val + 1) ∗ owesE (F := F) c (oweAt c (t.val + 1)) ∗ owns (c : Thread nD τ) a1 fullShare (xv m c) ∗ owns (c : Thread nD τ) a2 fullShare (wv m c t.val)) -∗ Q ⟨⟩)
        -∗ wpb c (callAt (F := F) t a1 h1 a2 h2) Q) := by
  have hi := coords_val t
  have hN : t.val < 9 := lt_of_lt_of_eq t.isLt N_0
  generalize hn : t.val = n at hi hN ⊢
  rcases n with _ | n
  · rw [PhiAt_zero, PhiAt_succ m c 0 (by decide), oweAt_zero, oweAt_succ c 0 (by decide)]
    iintro ⟨⟨#Hr, HM, HB, HY, HA⟩, HO, H1, H2⟩ Hk
    ihave HY := (Ys_zero m c) $$ HY
    ihave HY := (Ys_step m c 0 0 rfl) $$ HY
    icases HY with ⟨Y, HY⟩
    iapply (first_wp m c 0 (grid0.coords t) hi rfl) $$ [$Hr $HO $HB $H1 $H2 $Y $HA]
    iintro ⟨HO, H1, H2, Y, HA⟩
    iapply Hk
    ihave HY := HY $$ Y
    iframe Hr HM HY HA HO H1 H2
  · by_cases h8 : n + 1 < 8
    · rw [PhiAt_succ m c n (by omega), PhiAt_succ m c (n + 1) h8, oweAt_succ c n (by omega), oweAt_succ c (n + 1) h8]
      iintro ⟨⟨#Hr, HM, HY, HA⟩, HO, H1, H2⟩ Hk
      ihave HY := (Ys_step m c ⟨n + 1, h8⟩ (n + 1) rfl) $$ HY
      icases HY with ⟨Y, HY⟩
      iapply (later_wp m c ⟨n + 1, h8⟩ (grid0.coords t) hi n rfl) $$ [$H1 $H2 $Y $HA]
      iintro ⟨H1, H2, Y, HA⟩
      iapply Hk
      ihave HY := HY $$ Y
      iframe Hr HM HY HA HO H1 H2
    · obtain rfl : n = 7 := by omega
      rw [PhiAt_succ m c 7 (by decide), oweAt_succ c 7 (by decide), PhiAt_last, oweAt_last]
      iintro ⟨⟨#Hr, HM, HY, HA⟩, HO, H1, H2⟩ Hk
      ihave HY := (Ys_eight m c) $$ HY
      iapply (last_wp m c (grid0.coords t) hi) $$ [$Hr $HO $HM $HY $HA]
      iintro ⟨HO, HD⟩
      iapply Hk
      iframe HD HO H1 H2

/-! ## The pipeline's proof data, and its obligation -/

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
  Φ t := PhiAt m c t.val
  q _ := fullShare
  owed t := oweAt c t.val

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans
    rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans
    rfl

/-- The rows of `x` are the same at every point. -/
theorem iblk_x (c : Dev nD) (t : Fin cfg0.N) : iblk m c 0 t = xv m c := rfl
theorem iblk_w (c : Dev nD) (t : Fin cfg0.N) : iblk m c 1 t = wv m c t.val := by
  have hN : t.val < 9 := lt_of_lt_of_eq t.isLt N_0
  have h : t = pt t.val := Fin.ext (show t.val = t.val % 9 by omega)
  unfold wv
  generalize pt t.val = s at h
  subst h
  rfl

/-- What device `c` owes, as the pipeline holds it. -/
theorem owes_in (c : Dev nD) (t : Fin (cfg0.N + 1)) : (dats m 0 c).owesAt () t ⊢ owesE (F := F) c (oweAt c t.val) := by
  unfold Dat.owesAt Pipeline.owesWithin owesE
  iintro ⟨%W, -, H⟩
  iexists W
  iexact H
theorem owes_out (c : Dev nD) (t : Fin (cfg0.N + 1)) : owesE (F := F) c (oweAt c t.val) ⊢ (dats m 0 c).owesAt () t := by
  unfold Dat.owesAt Pipeline.owesWithin owesE
  iintro ⟨%W, H⟩
  iexists W
  isplitr
  · ipureintro; exact fun _ _ => Or.inl trivial
  · iexact H

theorem body_obligation (c : Dev nD) : BodyObligation (dats (F := F) m 0 c) (defs₀ (F := F)) 𝒱₀ () Set.univ := fun t => by
  rw [bigSep_W0, bigSep_W0]
  show iprop(PhiAt m c t.val ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d)))
    ⊢ wpb c (bodyAt0 t) fun _ => iprop(PhiAt m c (t.val + 1) ∗ (dats m 0 c).owesAt () t.succ
      ∗ owns (c : Thread nD τ) (win0_0.stage (cfg0.slots t 0)) fullShare (iblk m c 0 t)
      ∗ owns (c : Thread nD τ) (win0_1.stage (cfg0.slots t 1)) fullShare (iblk m c 1 t))
  simp only [before_0, before_1]
  rw [iblk_x, iblk_w]
  iintro ⟨HP, HO, ⟨%d1, H1⟩, ⟨%d2, H2⟩⟩
  ihave HO := (owes_in m c t.castSucc) $$ HO
  iapply (point_wp m c t) $$ [$HP $HO $H1 $H2]
  iintro ⟨HP, HO, H1, H2⟩
  ihave HO := (show owesE (F := F) c (oweAt c (t.val + 1)) ⊢ (dats m 0 c).owesAt () t.succ from owes_out m c t.succ) $$ HO
  iframe HP HO H1 H2

/-! ## Entry and exit -/

/-- What device `c` starts with, its scratch buffers apart. -/
def start (c : Dev nD) : sProp 𝕄 := iprop(recs m ∗ posn (F := F) c ∗ payToks (F := F) c ∗ creds (F := F) c ∗ heldAny (F := F) c main_v1)

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  show iprop(Pipeline.unscopedRest spec0 c (fun b => m ((c : Thread nD τ).loc b)) ∗ levAts L lv
        ∗ Pipeline.launchCred O₀ c ∗ prngReg c (ρ c) ∗ G' m c)
      ⊢ |={Set.univ}=> iprop(start m c ∗ emp)
  rw [unscopedRest0_eq]
  unfold G' start recs
  iintro ⟨HV, Hlev, Hcr, -, ⟨HK, HP, HT⟩⟩
  ihave Hc := (creds_intro (F := F) c) $$ Hcr
  imodintro
  isplitl
  · iframe HK Hlev HP HT Hc
    iexists _
    iexact HV
  · iempintro

/-- One thing, as a family that has it at `a` alone. -/
theorem spread (a : Dev nD) (P : sProp 𝕄) : P ⊢ bigSep Finset.univ fun b : Dev nD => if a = b then P else iprop(emp) := by
  refine BIBase.Entails.trans ?_ (put a fun b : Dev nD => if a = b then P else iprop(emp))
  rw [if_pos rfl, show (bigSep (Finset.univ.erase a) fun b : Dev nD => if a = b then P else iprop(emp)) = bigSep (Finset.univ.erase a) fun _ : Dev nD => iprop(emp) from
    bigSep_congr fun b hb => if_neg (Finset.mem_erase.mp hb).1.symm]
  refine BIBase.Entails.trans ?_ (sep_mono_right (Entails.of_eq (bigSep_emp_const (Finset.univ.erase a)).symm))
  iintro H
  isplitl [H]; · iexact H
  iempintro

/-- The landing slots and rows, arranged by the device they go to: the own slot and the last row stay. -/
theorem lands (c : Dev nD) :
    iprop((bigSep Finset.univ fun t : Dev nD => qrAny (F := F) c t) ∗ (bigSep Finset.univ fun r : Fin 4 => rdrAny (F := F) c r))
      ⊢ iprop((bigSep Finset.univ fun b : Dev nD => if c = b then iprop(emp) else barPay (F := F) b c) ∗ qrAny (F := F) c c ∗ rdrAny (F := F) c 3) := by
  have h : iprop((bigSep Finset.univ fun b : Dev nD => if c = b then iprop(emp) else qrAny (F := F) c b)
        ∗ (bigSep Finset.univ fun b : Dev nD => rowPay (F := F) 0 b c) ∗ (bigSep Finset.univ fun b : Dev nD => rowPay (F := F) 1 b c)
        ∗ bigSep Finset.univ fun b : Dev nD => rowPay (F := F) 2 b c)
      ⊢ bigSep Finset.univ fun b : Dev nD => if c = b then iprop(emp) else barPay (F := F) b c := by
    rw [← bigSep_sep', ← bigSep_sep', ← bigSep_sep']
    refine bigSep_mono fun b _ => ?_
    show iprop((if c = b then iprop(emp) else qrAny (F := F) c b) ∗ rowPay (F := F) 0 b c ∗ rowPay (F := F) 1 b c ∗ rowPay (F := F) 2 b c)
      ⊢ if c = b then iprop(emp) else barPay (F := F) b c
    by_cases hb : c = b
    · rw [if_pos hb, if_pos hb]; iintro -; iempintro
    · rw [if_neg hb, if_neg hb]; unfold barPay; exact Idealize.SL.BI.Entails.refl _
  rw [bigSep_four]
  iintro ⟨HQ, R0, R1, R2, R3⟩
  ihave HQ := (take c fun t => qrAny (F := F) c t) $$ HQ
  icases HQ with ⟨QC, HQ⟩
  ihave HQ := (Entails.of_eq (bigSep_others c fun t => qrAny (F := F) c t)) $$ HQ
  isplitl [HQ R0 R1 R2]
  · iapply h
    isplitl [HQ]; · iexact HQ
    isplitl [R0]; · iapply (spread (px 0 c) (rdrAny (F := F) c 0)); iexact R0
    isplitl [R1]; · iapply (spread (px 1 c) (rdrAny (F := F) c 1)); iexact R1
    iapply (spread (px 2 c) (rdrAny (F := F) c 2)); iexact R2
  iframe QC R3

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show iprop(start m c ∗ Pipeline.prefHeld Pipeline.Prefetch.none c (fun _ => fullShare.right) (fun k => k.elim0) ∗ Pipeline.scopedRest spec0 c)
      ⊢ iprop(recs m ∗ Mid (F := F) c ∗ (bigSep Finset.univ fun b : Dev nD => bP (F := F) c b) ∗ (bigSep Finset.univ fun j : Dev nD => yAny (F := F) c j) ∗ amAny (F := F) c)
  rw [scopedRest0_eq]
  unfold start posn payToks creds Mid
  iintro ⟨⟨#Hr, ⟨PB, PS, PR, PN, PV, PO⟩, ⟨TB, TS, TR, TN, TV, TO⟩, ⟨CB, CR, CV⟩, HV⟩, -, ⟨S0, S1, S2, S3, S4, S5, S6⟩⟩
  ihave Y := (y_split (F := F) c) $$ S0
  ihave QS := (qs_split (F := F) c) $$ S1
  ihave QR := (qr_split (F := F) c) $$ S2
  ihave OS := (os_split (F := F) c) $$ S3
  ihave RS := (rds_split (F := F) c) $$ S4
  ihave RR := (rdr_split (F := F) c) $$ S5
  ihave AM := (am_split (F := F) c) $$ S6
  ihave VR := (v1_split (F := F) c) $$ HV
  ihave LL := (lands (F := F) c) $$ [$QR $RR]
  icases LL with ⟨BP, QC, R3⟩
  isplitr; · iexact Hr
  isplitr [TB BP Y AM]
  · isplitl [CB]; · iexact CB
    isplitl [PB]; · iexact PB
    isplitl [PS PR CR TS TR RS]
    · unfold rdB
      simp only [bigSep_sep']
      iframe PS PR CR TS TR RS
    isplitl [PN TN TV QS]
    · unfold sB
      simp only [bigSep_sep']
      iframe PN TN TV QS
    isplitl [PV CV PO TO OS VR]
    · unfold rB
      simp only [bigSep_sep']
      iframe PV CV PO TO OS VR
    iframe QC R3
  isplitl [TB BP]
  · unfold bP
    simp only [bigSep_sep']
    iframe TB BP
  iframe Y AM

/-- The semaphores at the end, as the exit takes them. -/
theorem sems_out (c : Dev nD) :
    iprop(semVal (barCell c) 0 ∗ (bigSep Finset.univ fun r : Fin 3 => iprop(semVal (dcell c (rdS r)) 0 ∗ semVal (dcell c (rdR r)) 0))
      ∗ (bigSep Finset.univ fun b : Dev nD => iprop(semVal (dcell c (snd b)) 0 ∗ semVal (dcell c (rcv b)) 0 ∗ semVal (dcell c (out b)) 0)))
      ⊢ (iprop(unscopedSems0 c ∗ Pipeline.ownSems0 osem c) : sProp 𝕄) := by
  refine BIBase.Entails.trans ?_ (Entails.of_eq (sems0_eq (F := F) c))
  refine BIBase.Entails.trans ?_ (Entails.of_eq (cells_split fun s => semVal ((c : Thread nD τ), s) 0).symm)
  simp only [bigSep_sep']
  iintro ⟨H1, ⟨H2, H3⟩, H4, H5, H6⟩
  iframe H1 H2 H3 H4 H5 H6

/-- What leaves the region: the barrier at zero and the result's rows. -/
def fin (c : Dev nD) : sProp 𝕄 := iprop(unscopedSems0 c ∗ bigSep Finset.univ fun t : Dev nD => v1At c t (rv m c t))

theorem phi_exit (c : Dev nD) :
    (dats m 0 c).Φ (Fin.last cfg0.N) ⊢ iprop(fin m c ∗ Pipeline.ownSems0 osem c ∗ Pipeline.scopedRest cfg0.spec c) := by
  rw [show (dats m 0 c).Φ (Fin.last cfg0.N) = Done m c from by
    show PhiAt m c grid0.N = Done m c
    rw [N_0, PhiAt_last]]
  show Done m c ⊢ iprop(fin m c ∗ Pipeline.ownSems0 osem c ∗ Pipeline.scopedRest spec0 c)
  rw [scopedRest0_eq]
  unfold Done fin
  iintro ⟨Z1, Z2, Z3, Y, QS, QR, OS, RS, RR, AM, VD⟩
  ihave Z := (sems_out (F := F) c) $$ [$Z1 $Z2 $Z3]
  icases Z with ⟨ZU, ZO⟩
  isplitl [ZU VD]; · iframe ZU VD
  isplitl [ZO]; · iexact ZO
  isplitl [Y]; · iapply (y_join m c); iexact Y
  isplitl [QS]; · iapply (qs_join m c); iexact QS
  isplitl [QR]; · iapply (qr_join m c); iexact QR
  isplitl [OS]; · iapply (os_join m c); iexact OS
  isplitl [RS]; · iapply (rds_join m c); iexact RS
  isplitl [RR]; · iapply (rdr_join m c); iexact RR
  iapply (am_join m c); iexact AM

theorem oweAt_pos (c : Dev nD) (n : ℕ) (g : GSem nD τ sig) (u : Unit) (h : 0 < oweAt c n g u) : g.1.2 = .tc ∧ 0 + 1 ≤ lv g () := by
  rcases n with _ | n
  · exact OB_pos c 8 h
  · by_cases h8 : n < 8
    · rw [oweAt_succ c n h8] at h
      have := OR_pos c 3 (le_refl _) h; exact ⟨this.1, by omega⟩
    · rw [show oweAt c (n + 1) = 0 from if_neg h8] at h
      exact absurd h (Nat.lt_irrefl 0)

theorem waits (c : Dev nD) : (levAts L lv : sProp 𝕄) ⊢ Pipeline.cellsWaits cfgs (dats m) () 0 c :=
  Pipeline.cellsWaits_intro cfgs (dats m) () 0 c fun w s t =>
    mayWait c _ (oweAt c t.val) 0 (by fin_cases w <;> fin_cases s <;> decide) (oweAt_pos c t.val)

theorem share_eq (c : Dev nD) (w : Fin cfg0.W) : (dats m 0 c).share w = fullShare := by unfold Dat.share; split <;> rfl

/-! ## The run -/

/-- The memory a run starts from. -/
abbrev s₀ (ρ : Dev nD → PrngReg) : MemSt nD τ sig (Elt F) := ⟨m, fun _ => 0, ρ⟩

/-- A final state: the arrays of the windows as they were, the blocks of the result's rows, the semaphores at zero. -/
def QC : PUnit × MemSt nD τ sig (Elt F) → Prop := fun r =>
  (∀ c : Dev nD, (∀ w : Fin cfg0.W, r.2.mem ((cfg0.win w).arr.view.loc (c : Thread nD τ)) = (dats m 0 c).arrAt w cfg0.N)
    ∧ ∀ t : Dev nD, (slot v1M ![512 * t.val, 0] S512x256.size (inb_v t)).view.read (Elt F) (r.2.mem ((c : Thread nD τ).loc main_v1)) = rv m c t)
  ∧ r.2.sem = fun _ => 0

set_option maxRecDepth 8000 in
theorem run_main (ρ : Dev nD → PrngReg) : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun c => by
      show oweAt c grid0.N = 0
      rw [N_0, oweAt_last])
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m) (hout := phi_exit m)
    (QY := fun c s => (∀ sm : SemLoc sig, sm.isScoped .tc = false → s.sem ((c.tc : Thread nD τ), sm) = 0)
      ∧ ∀ t : Dev nD, (slot v1M ![512 * t.val, 0] S512x256.size (inb_v t)).view.read (Elt F) (s.mem ((c : Thread nD τ).loc main_v1)) = rv m c t)
    (hY := fun c s' => by
      unfold fin
      iintro ⟨⟨Hu, HV⟩, -, HSI⟩
      ihave H := (v1_read (F := F) c (rv m c)) $$ [$HV $HSI]
      icases H with ⟨%hv, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hs, hv⟩
      · iexact HSI)
    (hQ := fun _ h hs => ⟨fun c => ⟨fun w => (h c).1 w, (h c).2.2.2⟩, sem_eq_zero hs fun c => (h c).2.2.1⟩)

/-- The run at the arrays a claim speaks of: both arguments are unchanged, every counter is zero, and the row block t
    of the result on each device is what that device wrote for device t. -/
theorem run_value (ρ : Dev nD → PrngReg) :
    θ_run defs (onTc (τ := τ) (main (F := F))) ⟨m, fun _ => 0, ρ⟩ (fun r => (∀ c : Dev nD,
      (∀ t : Dev nD, (slot v1M ![512 * t.val, 0] S512x256.size (inb_v t)).view.read (Elt F) (r.2.mem ((c : Thread nD τ).loc main_v1)) = rv m c t)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).2,
      ((h.1 c).1 0).trans ((dats m 0 c).arrAt_in 0 rfl _), ((h.1 c).1 1).trans ((dats m 0 c).arrAt_in 1 rfl _)⟩, h.2⟩) (run_main m ρ)

/-- The frame: both arguments are unchanged and every counter is zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_value m ρ)

end Cert.KernelIdealProof

end
-- ==== Proof.Quant.lean ====
/- The arithmetic of the comparison, over the extended reals.

   An entry that is neither negative nor above the largest entry, divided by the common scale (the largest entry over
   448), lies between 0 and 448: the reference's clamp to 448 and its sign change nothing, and multiplying by the
   reciprocal of the scale is dividing by it. Where the scale is zero or infinite both sides are zero. -/
module

public import Idealize.ShloMosaic.PureOps.Ideal.Laws
public import Idealize.ShloMosaic.Lib.IdealHost

@[expose] public section

noncomputable section

namespace Cert.Quant

open Idealize.ShloMosaic

/-- The f32 pattern of 448, the largest finite e4m3 value, denotes 448. -/
theorem ofBits_448 : Ideal.ofBits .f32 0x43E00000#32 = ((448 : ℝ) : EReal) := by
  simp [Ideal.ofBits, Ideal.ieee, -EReal.coe_mul]; norm_num

/-- The f32 pattern of −∞ denotes the bottom. -/
theorem ofBits_negInf : Ideal.ofBits .f32 0xFF800000#32 = (⊥ : EReal) := by
  simp [Ideal.ofBits, Ideal.ieee]

/-- The common scale of entries whose largest is `g`. -/
def scale (g : EReal) : EReal := Ideal.div g ((448 : ℝ) : EReal)

/-- The kernel's result of an entry. -/
def kq (g y : EReal) : EReal := y * Ideal.div 1 (scale g) * scale g

/-- The reference's result of an entry. -/
def rq (g y : EReal) : EReal :=
  Ideal.sign (Ideal.div y (scale g)) * min (max (Ideal.div y (scale g)) (-Ideal.div y (scale g))) ((448 : ℝ) : EReal) * scale g

theorem c448_ne : ((448 : ℝ) : EReal) ≠ 0 := by exact_mod_cast (by norm_num : (448 : ℝ) ≠ 0)

/-- Of an entry between zero and the largest entry the two results are equal. -/
theorem kq_eq_rq {g y : EReal} (h0 : 0 ≤ y) (hg : y ≤ g) : kq g y = rq g y := by
  unfold kq rq
  induction g using EReal.rec with
  | bot => exact absurd (h0.trans hg) (by simp)
  | top =>
    have hs : scale ⊤ = ⊤ := by
      unfold scale Ideal.div
      rw [if_neg c448_ne, ← EReal.coe_inv, EReal.top_mul_coe_of_pos (by norm_num)]
    have hd : ∀ x, Ideal.div x (⊤ : EReal) = 0 := fun x => by
      unfold Ideal.div; rw [if_neg (by simp), EReal.inv_top, mul_zero]
    have hz : Ideal.sign 0 = 0 := by
      show ((SignType.sign (0 : ℝ) : ℝ) : EReal) = 0
      simp
    rw [hs, hd, hd, hz]; simp
  | coe g =>
    induction y using EReal.rec with
    | bot => exact absurd h0 (by simp)
    | top => exact absurd hg (by simp)
    | coe y =>
      have h0' : (0 : ℝ) ≤ y := by exact_mod_cast h0
      have hg' : y ≤ g := by exact_mod_cast hg
      have hs : scale (g : EReal) = ((g / 448 : ℝ) : EReal) := by
        unfold scale Ideal.div
        rw [if_neg c448_ne, ← EReal.coe_inv, ← EReal.coe_mul, div_eq_mul_inv]
      rw [hs]
      rcases eq_or_lt_of_le (h0'.trans hg') with hz | hp
      · rw [← hz]; simp
      · have hne : ((g / 448 : ℝ) : EReal) ≠ 0 := by exact_mod_cast (by positivity : (g / 448 : ℝ) ≠ 0)
        have hd : ∀ x : ℝ, Ideal.div (x : EReal) ((g / 448 : ℝ) : EReal) = ((x / (g / 448) : ℝ) : EReal) := fun x => by
          unfold Ideal.div; rw [if_neg hne, ← EReal.coe_inv, ← EReal.coe_mul, ← div_eq_mul_inv]
        have hd1 : Ideal.div 1 ((g / 448 : ℝ) : EReal) = ((1 / (g / 448) : ℝ) : EReal) := hd 1
        rw [hd1, hd y]
        have hv0 : 0 ≤ y / (g / 448) := by positivity
        have hv1 : y / (g / 448) ≤ 448 := by rw [div_le_iff₀ (by positivity)]; linarith
        have ha : max ((y / (g / 448) : ℝ) : EReal) (-((y / (g / 448) : ℝ) : EReal)) = ((y / (g / 448) : ℝ) : EReal) :=
          max_eq_left (by rw [← EReal.coe_neg]; exact_mod_cast (by linarith : -(y / (g / 448)) ≤ y / (g / 448)))
        rw [ha, min_eq_left (by exact_mod_cast hv1)]
        have hsg : Ideal.sign ((y / (g / 448) : ℝ) : EReal) * ((y / (g / 448) : ℝ) : EReal) = ((y / (g / 448) : ℝ) : EReal) := by
          rcases eq_or_lt_of_le hv0 with h | h
          · rw [← h]; simp
          · show ((SignType.sign (y / (g / 448)) : ℝ) : EReal) * _ = _
            rw [sign_pos h]; simp
        rw [hsg, ← EReal.coe_mul, mul_one_div]

/-- Folding `max` from the bottom over a finite set is its supremum, for any bound: the fold is at most `b` exactly
    when every member is. -/
theorem fold_max_le {ι : Type} (s : Finset ι) (f : ι → EReal) (b : EReal) :
    s.fold max ⊥ f ≤ b ↔ ∀ i ∈ s, f i ≤ b := by
  rw [Finset.fold_max_le]; simp

end Cert.Quant

end
-- ==== Proof.Entry.lean ====
/-
# The kernel's result over the extended reals

At the ideal instance every entry of a device's result is `Quant.kq` of one entry of `relu (x w)` and of the largest of
all its entries: the maximum that the exchanges agree on is described by what it is at most.
-/
module

public import proofs.«01_k».proof.Proof.Run
public import proofs.«01_k».proof.Proof.Quant
public import Idealize.ShloMosaic.Lib.Pipeline.ValueKit
public import Idealize.ShloMosaic.Lib.Pointwise

@[expose] public section

set_option maxRecDepth 16384

noncomputable section

namespace Cert.KernelIdealProof

open Cert.KernelIdeal Cert.KernelIdeal.Gen
open Idealize.ShloMosaic
open Idealize.ShloMosaic.TcCoe
open Idealize.SL.Sem
open scoped BigOperators

variable (m : (ℓ : Loc nD τ sig) → Buf (Elt Ideal) ℓ)

/-! ## The largest entry -/

/-- A one-element vector has one index. -/
theorem one_idx (j : S1.Idx) : ∀ i : S1.Idx, i = j := fun i => funext fun a => by
  match a with
  | ⟨0, _⟩ => exact Subsingleton.elim (α := Fin 1) _ _

/-- A maximum over every axis is at most `b` exactly when each element is. -/
theorem maxRed_le {s t : Shape} {axes : List (Fin s.rank)} (src : FVec Ideal s .f32) (h : s.Reduces axes t)
    (hφ : FKind.Formats .f32) (hacc : (0xFF800000#32 : BitVec 32) = FKind.maximumf.neutral .f32 hφ) (j : t.Idx) (hj : ∀ i, i = j) (b : EReal) :
    multiReduction .maximumf axes t src 0xFF800000#32 h hφ hacc j ≤ b ↔ ∀ i, src i ≤ b := by
  have e : multiReduction .maximumf axes t src 0xFF800000#32 h hφ hacc j
      = (Finset.univ.filter fun i => h.drop i = j).fold max ⊥ src := by
    rw [multiReduction_maximumf_eq_fold, ← Quant.ofBits_negInf]; rfl
  rw [e, Quant.fold_max_le]
  exact ⟨fun H i => H i (Finset.mem_filter.2 ⟨Finset.mem_univ _, hj _⟩), fun H i _ => H i⟩

/-- The same elements in another shape have the same bounds. -/
theorem cast_le {s t : Shape} (x : s.Idx → EReal) (h : s.ShapeCasts t) (b : EReal) : (∀ j, shapeCast t x h j ≤ b) ↔ ∀ i, x i ≤ b := by
  unfold shapeCast
  exact (Shape.reshapeEquiv h).forall_congr_right (q := fun i => x i ≤ b)

/-- The element read off a one-element vector in another shape has the bounds of the vector's. -/
theorem extract_le (v : FVec Ideal S1 .f32) (h : S1.ShapeCasts S1x1x1) (h' : ∀ a : Fin 3, (![0, 0, 0] : Fin 3 → ℕ) a < S1x1x1.size a) (b : EReal) (P : Prop)
    (hv : ∀ j, v j ≤ b ↔ P) : extractAt (s := S1x1x1) (![0, 0, 0] : Fin 3 → ℕ) (shapeCast S1x1x1 v h) h' ≤ b ↔ P := by
  unfold extractAt shapeCast; exact hv _

theorem broadcast_at {s : Shape} {α : Type} (x : α) (i : s.Idx) : broadcast s x i = x := rfl

/-- A broadcast block maximum is at most `b` exactly when each entry of the block is. -/
theorem pay3_le (x : Vec Ideal S512x4096 .f32) (w : Vec Ideal S4096x256 .f32) (i : S1x128.Idx) (b : EReal) :
    k0_pay3 x w i ≤ b ↔ ∀ j : S512x256.Idx, k0_pay1 x w j ≤ b := by
  unfold k0_pay3
  generalize k0_pay1 x w = z
  have hz := cast_le z shapeCasts_S512x256_S1x512x256 b
  have hm := fun j => (maxRed_le (shapeCast S1x512x256 z shapeCasts_S512x256_S1x512x256) reduces_S1x512x256_S1 (.inl rfl) rfl j (one_idx j) b).trans hz
  have he := extract_le _ shapeCasts_S1_S1x1x1 inpos_S1x1x1_p0_0_0 b _ hm
  rw [broadcast_at]
  exact he

theorem maximum_at {s : Shape} (x y : FVec Ideal s .f32) (i : s.Idx) : maximumf x y i = max (x i) (y i) := rfl

/-- Each step of the running maximum, without its casts. -/
theorem amv_zero (c : Dev nD) : amv m c 0 = k0_pay3 (xv m c) (wv m c 0) := by
  unfold amv k0_pay4; exact shapeCast_self _ _
theorem amv_succ (c : Dev nD) (n : ℕ) : amv m c (n + 1) = maximumf (amv m c n) (k0_pay3 (xv m c) (wv m c (n + 1))) := by
  rw [amv]; unfold k0_pay5; exact shapeCast_self _ _
theorem row0_eq (c : Dev nD) : row0 m c = amv m c 7 := by unfold row0 k0_pay6; exact shapeCast_self _ _
theorem run1_max (c : Dev nD) : run1 m c = maximumf (amv m c 7) (row0 m (px 0 c)) := by unfold run1 k0_pay7; rfl
theorem row1_eq (c : Dev nD) : row1 m c = run1 m c := by unfold row1 k0_pay8 run1; exact shapeCast_self _ _
theorem run2_max (c : Dev nD) : run2 m c = maximumf (run1 m c) (row1 m (px 1 c)) := by unfold run2 k0_pay9; rfl
theorem row2_eq (c : Dev nD) : row2 m c = run2 m c := by unfold row2 k0_pay10 run2; exact shapeCast_self _ _

/-- After column block `n` the running maximum is at most `b` exactly when each entry of the blocks so far is. -/
theorem amv_le (c : Dev nD) (i : S1x128.Idx) (b : EReal) (n : ℕ) :
    amv m c n i ≤ b ↔ ∀ k ≤ n, ∀ j : S512x256.Idx, k0_pay1 (xv m c) (wv m c k) j ≤ b := by
  induction n with
  | zero =>
    rw [amv_zero, pay3_le]
    exact ⟨fun h k hk => by rw [Nat.le_zero.1 hk]; exact h, fun h => h 0 le_rfl⟩
  | succ n ih =>
    rw [amv_succ, maximum_at, max_le_iff, ih, pay3_le]
    constructor
    · rintro ⟨h1, h2⟩ k hk
      rcases Nat.lt_or_ge n k with h | h
      · rw [Nat.le_antisymm hk h]; exact h2
      · exact h1 k h
    · exact fun h => ⟨fun k hk => h k (Nat.le_succ_of_le hk), h _ le_rfl⟩

/-- Every entry of device `d`'s rows of `relu (x w)` is at most `b`. -/
def Under (b : EReal) (d : Dev nD) : Prop := ∀ k ≤ 7, ∀ j : S512x256.Idx, k0_pay1 (xv m d) (wv m d k) j ≤ b

theorem amv7_le (c : Dev nD) (i : S1x128.Idx) (b : EReal) : amv m c 7 i ≤ b ↔ Under m b c := by
  unfold Under; exact amv_le m c i b 7

theorem run1_le (c : Dev nD) (i : S1x128.Idx) (b : EReal) : run1 m c i ≤ b ↔ Under m b c ∧ Under m b (px 0 c) := by
  rw [run1_max, maximum_at, max_le_iff, row0_eq, amv7_le, amv7_le]

theorem run2_le (c : Dev nD) (i : S1x128.Idx) (b : EReal) :
    run2 m c i ≤ b ↔ (Under m b c ∧ Under m b (px 0 c)) ∧ (Under m b (px 1 c) ∧ Under m b (px 0 (px 1 c))) := by
  rw [run2_max, maximum_at, max_le_iff, row1_eq, run1_le, run1_le]

/-- The eight devices that three exchanges reach are all of them. -/
theorem reach : ∀ c d : Dev nD, d = c ∨ d = px 0 c ∨ d = px 1 c ∨ d = px 0 (px 1 c)
    ∨ d = px 2 c ∨ d = px 0 (px 2 c) ∨ d = px 1 (px 2 c) ∨ d = px 0 (px 1 (px 2 c)) := by decide

/-- The row of the largest entry, as device `c` has it after the third exchange. -/
def last (c : Dev nD) : FVec Ideal S1x128 .f32 := maximumf (run2 m c) (row2 m (px 2 c))

/-- It is at most `b` exactly when every entry of every device is. -/
theorem last_le (c : Dev nD) (i : S1x128.Idx) (b : EReal) : last m c i ≤ b ↔ ∀ d, Under m b d := by
  unfold last
  rw [maximum_at, max_le_iff, row2_eq, run2_le, run2_le]
  constructor
  · rintro ⟨⟨⟨h0, h1⟩, h2, h3⟩, ⟨h4, h5⟩, h6, h7⟩ d
    rcases reach c d with h | h | h | h | h | h | h | h
    · rw [h]; exact h0
    · rw [h]; exact h1
    · rw [h]; exact h2
    · rw [h]; exact h3
    · rw [h]; exact h4
    · rw [h]; exact h5
    · rw [h]; exact h6
    · rw [h]; exact h7
  · exact fun h => ⟨⟨⟨h _, h _⟩, h _, h _⟩, ⟨h _, h _⟩, h _, h _⟩

/-- The largest entry, as device `c` reduces it to one number. -/
def gm (c : Dev nD) : EReal :=
  extractAt ![0, 0, 0] (shapeCast S1x1x1 (multiReduction .maximumf [1, 2] S1 (shapeCast S1x1x128 (last m c) shapeCasts_S1x128_S1x1x128)
    0xFF800000#32 reduces_S1x1x128_S1 (.inl rfl) rfl) shapeCasts_S1_S1x1x1) inpos_S1x1x1_p0_0_0

/-- What the exchanges agree on is at most `b` exactly when every entry of every device is. -/
theorem gm_le (c : Dev nD) (b : EReal) : gm m c ≤ b ↔ ∀ d, Under m b d := by
  have hz := cast_le (last m c) shapeCasts_S1x128_S1x1x128 b
  have hl : (∀ i, last m c i ≤ b) ↔ ∀ d, Under m b d :=
    ⟨fun h => (last_le m c (ix2 0 0) b).1 (h _), fun h i => (last_le m c i b).2 h⟩
  have hm := fun j => ((maxRed_le (shapeCast S1x1x128 (last m c) shapeCasts_S1x128_S1x1x128) reduces_S1x1x128_S1 (.inl rfl) rfl j (one_idx j) b).trans hz).trans hl
  have he := extract_le _ shapeCasts_S1_S1x1x1 inpos_S1x1x1_p0_0_0 b _ hm
  unfold gm
  exact he

theorem gm_all (c d : Dev nD) : gm m c = gm m d := eq_of_forall_ge_iff fun b => (gm_le m c b).trans (gm_le m d b).symm

/-- The scale and its reciprocal. -/
theorem scl_scale (c : Dev nD) : scl m c = Quant.scale (gm m c) := by
  unfold scl k0_pay11 Quant.scale gm last
  rw [← Quant.ofBits_448]
  rfl
theorem isc_scale (c : Dev nD) : isc m c = Ideal.div 1 (Quant.scale (gm m c)) := by
  have h : k0_pay11 (run2 m c) (row2 m (px 2 c)) = Quant.scale (gm m c) := scl_scale m c
  unfold isc k0_pay12
  rw [h, ← Ideal.ofBits_one_f32]
  rfl

/-! ## An entry of the result -/

/-- Reading in another shape and back is reading at the same place. -/
theorem back {s t : Shape} (h : t.numel = s.numel) (h' : s.numel = t.numel) (i : s.Idx) :
    Shape.reshapeEquiv h (Shape.reshapeEquiv h' i) = i :=
  s.rowMajor.injective (Fin.ext ((Shape.rowMajor_reshapeEquiv h _).trans (Shape.rowMajor_reshapeEquiv h' i)))

theorem cast_at {s t : Shape} (x : s.Idx → EReal) (h : s.ShapeCasts t) (j : t.Idx) : shapeCast t x h j = x (Shape.reshapeEquiv h j) := rfl
theorem mul_at {s : Shape} (x y : FVec Ideal s .f32) (i : s.Idx) : mulf x y i = x i * y i := rfl
theorem trunc_at {s : Shape} (x : FVec Ideal s .f32) (h) (i : s.Idx) : (truncf .fp8e4m3 x h : FVec Ideal s .fp8e4m3) i = x i := rfl
theorem ext_at {s : Shape} (x : FVec Ideal s .fp8e4m3) (h) (i : s.Idx) : (extf .f32 x h : FVec Ideal s .f32) i = x i := rfl

theorem yv_eq (t b : Dev nD) : yv m t b = k0_pay1 (xv m t) (wv m t b.val) := by unfold yv k0_pay2; exact shapeCast_self _ _

/-- An entry of a quantised block, before its cast back. -/
theorem qv_at (t b : Dev nD) (i : S512x256.Idx) (h : S512x256.numel = S1x512x256.numel) :
    qv m t b (Shape.reshapeEquiv h i) = k0_pay1 (xv m t) (wv m t b.val) i * Ideal.div 1 (Quant.scale (gm m t)) := by
  unfold qv k0_pay15
  rw [cast_at, back, trunc_at, mul_at, broadcast_at, yv_eq, isc_scale]

/-- An entry of the result: rows of device `t`, columns of device `c`. -/
theorem rv_at (c t : Dev nD) (i : S512x256.Idx) :
    rv m c t i = Quant.kq (gm m c) (k0_pay1 (xv m t) (wv m t c.val) i) := by
  unfold rv ov Quant.kq
  split
  · next h =>
    subst h
    unfold k0_pay21
    rw [shapeCast_self, mul_at, ext_at, broadcast_at, qv_at, scl_scale]
  · unfold k0_pay22
    rw [cast_at, back, mul_at, ext_at, broadcast_at, cast_at, qv_at, scl_scale, gm_all m t c]

/-! ## An entry of the product -/

theorem index0 : ∀ t : Fin cfg0.N, win0_0.index t = ![0, 0] := (by decide +kernel : ∀ t : Fin grid0.N, _)
theorem index1 : ∀ t : Fin cfg0.N, win0_1.index t = ![0, min t.val 7] := (by decide +kernel : ∀ t : Fin grid0.N, _)

/-- Device `c`'s rows of `x`, and its copy of `w`, as launched. -/
abbrev xa (c : Dev nD) : FVec Ideal S512x4096 .f32 := m ((c : Thread nD τ).loc main_arg0)
abbrev wa (c : Dev nD) : FVec Ideal S4096x2048 .f32 := m ((c : Thread nD τ).loc main_arg1)

/-- The staged rows of `x` are the device's own array. -/
theorem xv_at (c : Dev nD) (a : Fin 512) (k : Fin 4096) :
    xv m c (ix2 a k) = xa m c (ix2 a k) := by
  unfold xv
  blk_ext [iblk, V, index0 (pt 0)]

/-- The staged columns of `w` at point `n` are columns `256 n` on. -/
theorem wv_at (c : Dev nD) (n : ℕ) (hn : n < 8) (k : Fin 4096) (b : Fin 256) :
    wv m c n (ix2 k b) = wa m c (ix2 k ⟨256 * n + b.val, by omega⟩) := by
  unfold wv
  have hp : (pt n).val = n := Nat.mod_eq_of_lt (by omega)
  blk_ext [iblk, V, index1 (pt n)]

/-- An entry of `relu (x w)`. -/
theorem pay1_at (c : Dev nD) (n : ℕ) (hn : n < 8) (a : Fin 512) (b : Fin 256) :
    k0_pay1 (xv m c) (wv m c n) (ix2 a b)
      = max (∑ k : Fin 4096, xa m c (ix2 a k) * wa m c (ix2 k ⟨256 * n + b.val, by omega⟩)) 0 := by
  pointwise [k0_pay1]
  exact congrArg (max · 0) (Finset.sum_congr rfl fun k _ => by rw [xv_at, wv_at m c n hn])

end Cert.KernelIdealProof

end
-- ==== Proof.RefValue.lean ====
/-
# The reference's result over the extended reals
-/
module

public import proofs.«01_k».proof.Proof.Gen.ReferenceIdeal.Frame
public import proofs.«01_k».proof.Proof.Quant
public import Idealize.ShloMosaic.Lib.Claim
public import Idealize.ShloMosaic.Lib.Pipeline.ValueKit
public import Idealize.ShloMosaic.Lib.Pointwise

@[expose] public section

set_option maxRecDepth 16384

noncomputable section

namespace Cert.ReferenceIdealProof

open Cert.ReferenceIdeal Cert.ReferenceIdeal.Gen
open Idealize.ShloMosaic
open Idealize.ShloMosaic.TcCoe
open Idealize.SL.Sem
open scoped BigOperators

variable (m : (ℓ : Loc nD τ sig) → Buf (Elt Ideal) ℓ)

/-! ## The arrays -/

/-- The first operand, at its literal type. -/
abbrev X : FVec Ideal S4096x4096 .f32 := m (((0 : Dev nD) : Thread nD τ).loc main_arg0)

/-- The second operand, at its literal type. -/
abbrev W : FVec Ideal S4096x2048 .f32 := m (((0 : Dev nD) : Thread nD τ).loc main_arg1)

/-- The product, clipped at nought. -/
def yv : FVec Ideal S4096x2048 .f32 :=
  maximumf ((Host.dotGeneral dot_S4096x4096_S4096x2048_S4096x2048_1_0_0_1_n_n none (X m : FVec Ideal S4096x4096 .f32) (W m : FVec Ideal S4096x2048 .f32) : FVec Ideal S4096x2048 .f32))
    (broadcastInDim S4096x2048 ![] bcast_S_S4096x2048 (constant S_ FTy.f32 0x00000000#32))

/-- The largest magnitude. -/
def gv : FVec Ideal S_ .f32 :=
  Host.reduce FloatOps.maximumf (Host.absf (yv m)) (constant S_ FTy.f32 0xFF800000#32) reducesTo_S4096x2048_S_d0_1 h_S_

/-- The scale. -/
def sv : FVec Ideal S_ .f32 := Host.divf (gv m) (constant S_ FTy.f32 0x43E00000#32)

/-- The scaled product. -/
def dv : FVec Ideal S4096x2048 .f32 := Host.divf (yv m) (broadcastInDim S4096x2048 ![] bcast_S_S4096x2048 (sv m))

/-- The result. -/
def ov : FVec Ideal S4096x2048 .f32 :=
  mulf (mulf (Host.sign (dv m)) (minimumf (Host.absf (dv m))
      (broadcastInDim S4096x2048 ![] bcast_S_S4096x2048 (constant S_ FTy.f32 0x43E00000#32))))
    (broadcastInDim S4096x2048 ![] bcast_S_S4096x2048 (sv m))

/-! ## What the buffers hold -/

theorem v5_eq : V0 m 0 (Proc.devRef .tc main_v5) = sv m := by
  unfold V0
  rw [List.flatten_cons, List.flatten_nil, List.append_nil]
  unfold hostOps0
  after_results
  rfl

theorem v7_eq : V0 m 0 (Proc.devRef .tc main_v7) = dv m := by
  unfold V0
  rw [List.flatten_cons, List.flatten_nil, List.append_nil]
  unfold hostOps0
  after_results
  rfl

theorem v8_eq : V0 m 0 (Proc.devRef .tc main_v8) = Host.absf (dv m) := by
  unfold V0
  rw [List.flatten_cons, List.flatten_nil, List.append_nil]
  unfold hostOps0
  after_results
  rfl

/-- The region's two conversions leave each element as it is. -/
theorem pay_eq (x : Vec Ideal S4096x2048 .f32) : k0_pay1 x = x := by
  unfold k0_pay1; funext i; simp only [shapeCast_self]; rfl

theorem v9_eq : (dats m 0 0).arrAt 1 (cfgs 0).N = V0 m 0 (Proc.devRef .tc main_v8) := by
  refine (dats m 0 0).arrAt_eq_of_after_last 1 t0_0 (by decide +kernel) _ fun j => ?_
  rw [after0_1]
  unfold out0_1
  rw [pay_eq, View.canon_unit_zero (by decide), View.ld_unit_zero (by decide)]
  unfold iblk V
  generalize V0 m 0 = U
  blk_simp
  blk_point [idx t0_0]
  all_goals first | (rfl; done) | (exact (Nat.zero_add _).trans (Nat.one_mul _)) | (simp [View.slice, Rect.emb]; done) | (change 0 + 1 * _ = _; omega) | skip

theorem tail : Pipeline.afterTail₀ cfgs (dats m) 0 (V0 m) [hostOps1] 0 main_v15 = ov m := by
  unfold Pipeline.afterTail₀
  rw [List.flatten_cons, List.flatten_nil, List.append_nil]
  have e5 := Pipeline.withArrays_of_ne (cfgs 0).spec 0 (V0 m 0) (fun w => (dats m 0 0).arrAt w (cfgs 0).N) main_v5
    (by exact (by decide : ∀ w, Pipeline.arrRef spec0 w ≠ main_v5))
  have e7 := Pipeline.withArrays_of_ne (cfgs 0).spec 0 (V0 m 0) (fun w => (dats m 0 0).arrAt w (cfgs 0).N) main_v7
    (by exact (by decide : ∀ w, Pipeline.arrRef spec0 w ≠ main_v7))
  have e9 : Pipeline.withArrays (cfgs 0).spec 0 (V0 m 0) (fun w => (dats m 0 0).arrAt w (cfgs 0).N) (Proc.devRef .tc main_v9) = (dats m 0 0).arrAt 1 (cfgs 0).N :=
    Pipeline.withArrays_arr (cfgs 0).spec (by exact (by decide : Function.Injective (Pipeline.arrRef spec0))) 0 (V0 m 0) (fun w => (dats m 0 0).arrAt w (cfgs 0).N) 1
  rw [v5_eq] at e5
  rw [v7_eq] at e7
  rw [v9_eq, v8_eq] at e9
  revert e5 e7 e9
  generalize Pipeline.withArrays _ _ _ _ = U
  intro e5 e7 e9
  unfold hostOps1
  after_results
  rw [e5, e7, e9]
  rfl

theorem run (ρ : Dev nD → PrngReg) :
    θ_run defs (onTc (τ := τ) (main (F := Ideal))) ⟨m, fun _ => 0, ρ⟩ (fun r =>
      r.2.mem (((0 : Dev nD) : Thread nD τ).loc main_v15) = ov m) :=
  (θ_run defs _ _).mono (fun _ h => ((h 0).2 main_v15 (Pipeline.mem_restRefs_of main_v15 (by decide) (by decide))).trans (tail m)) (run_main m ρ)

end Cert.ReferenceIdealProof

end
-- ==== Proof.Same.lean ====
/-
# The two results are one array

Device `c`'s rows of the first operand are block `c` of the reference's, and both read the whole second operand, so the
entries of `relu (x w)` that the devices form are the reference's, cut along rows and columns; the largest is the same,
and the quantiser of an entry is the same function of the two (`Quant.kq_eq_rq`).
-/
module

public import proofs.«01_k».proof.Proof.Entry
public import proofs.«01_k».proof.Proof.RefValue
public import Idealize.ShloMosaic.Lib.KernelVsHost
public import Idealize.ShloMosaic.Lib.LayoutAt
public import Idealize.ShloMosaic.Lib.Claim

@[expose] public section

set_option maxRecDepth 16384

noncomputable section

namespace Cert.ReferenceIdealProof

open Cert.ReferenceIdeal Cert.ReferenceIdeal.Gen
open Idealize.ShloMosaic
open Idealize.ShloMosaic.TcCoe
open Idealize.SL.Sem
open scoped BigOperators

variable (m : (ℓ : Loc nD τ sig) → Buf (Elt Ideal) ℓ)

/-- An entry of the clipped product. -/
theorem yv_at (r : Fin 4096) (c : Fin 2048) :
    yv m (ix2 r c) = max (∑ k : Fin 4096, X m (ix2 r k) * W m (ix2 k c)) 0 := by
  pointwise [yv]

theorem yv_nonneg (i : S4096x2048.Idx) : 0 ≤ yv m i := by
  obtain ⟨r, c, rfl⟩ : ∃ r c, i = ix2 r c := ⟨i 0, i 1, by funext a; match a with | ⟨0, _⟩ => rfl | ⟨1, _⟩ => rfl⟩
  rw [yv_at]; exact le_max_right _ _

/-- The one index of a scalar. -/
abbrev o0 : S_.Idx := fun a => a.elim0

theorem abs_at (y : FVec Ideal S4096x2048 .f32) (i : S4096x2048.Idx) : Host.absf y i = max (y i) (-(y i)) := rfl

/-- A left fold of the maximum is at most `b` exactly when its start and each of its elements are. -/
theorem foldl_le {ι : Type} (x : ι → EReal) (b : EReal) : ∀ (l : List ι) (z : EReal),
    l.foldl (fun r n => (FloatOps.maximumf (F := Ideal) (φ := .f32) r (x n) : EReal)) z ≤ b ↔ z ≤ b ∧ ∀ n ∈ l, x n ≤ b
  | [], z => by simp
  | n :: l, z => by
    rw [List.foldl_cons, foldl_le x b l]
    show max z (x n) ≤ b ∧ _ ↔ _
    rw [max_le_iff, List.forall_mem_cons, and_assoc]

/-- The largest magnitude is at most `b` exactly when every entry is. -/
theorem gv_le (b : EReal) : gv m o0 ≤ b ↔ ∀ i, yv m i ≤ b := by
  unfold gv
  rw [Host.reduce_eq_foldl, foldl_le]
  have e0 : (constant (F := Ideal) S_ FTy.f32 0xFF800000#32) (Shape.Idx.first h_S_) ≤ b := by
    show Ideal.ofBits .f32 0xFF800000#32 ≤ b
    rw [Quant.ofBits_negInf]; exact bot_le
  refine (and_iff_right e0).trans ?_
  refine Iff.trans (b := ∀ i, Host.absf (yv m) i ≤ b) ⟨fun H i => H i (List.mem_filter.2 ⟨?_, ?_⟩), fun H n _ => H n⟩ ?_
  · exact List.mem_map.2 ⟨S4096x2048.rowMajor i, List.mem_finRange _, Equiv.symm_apply_apply _ _⟩
  · exact decide_eq_true (funext fun a => a.elim0)
  refine forall_congr' fun i => ?_
  rw [abs_at, max_eq_left (((EReal.neg_le_neg_iff.2 (yv_nonneg m i)).trans_eq neg_zero).trans (yv_nonneg m i))]

theorem sv_at (i : S_.Idx) : sv m i = Quant.scale (gv m i) := by
  unfold sv Quant.scale
  rw [← Quant.ofBits_448]; rfl

theorem dv_at (i : S4096x2048.Idx) : dv m i = Ideal.div (yv m i) (Quant.scale (gv m o0)) := by
  rw [← sv_at]
  unfold dv
  generalize sv m = s
  generalize yv m = y
  show Ideal.div (y i) _ = Ideal.div (y i) _
  exact congrArg (fun j => Ideal.div (y i) (s j)) (funext fun a => a.elim0)

/-- An entry of the reference's result. -/
theorem ov_at (i : S4096x2048.Idx) : ov m i = Quant.rq (gv m o0) (yv m i) := by
  unfold Quant.rq
  rw [← dv_at, ← sv_at, ← Quant.ofBits_448]
  unfold ov
  generalize sv m = s
  generalize dv m = d
  show Ideal.sign (d i) * min (max (d i) (-d i)) (Ideal.ofBits .f32 0x43E00000#32) * s _ = _
  exact congrArg (fun j => Ideal.sign (d i) * min (max (d i) (-d i)) (Ideal.ofBits .f32 0x43E00000#32) * s j) (funext fun a => a.elim0)

end Cert.ReferenceIdealProof

namespace Cert.Same

open Idealize.ShloMosaic
open Idealize.ShloMosaic.TcCoe
open Idealize.SL.Sem
open scoped BigOperators

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

open KernelIdealProof ReferenceIdealProof

/-- What the launches share: each device's rows are its block of the reference's, the second operand is whole. -/
def Agree : Prop := ∀ c : Dev KernelIdeal.nD,
  xa m c = Layout.block ⟨2, ![512, 4096]⟩ ⟨2, ![4096, 4096]⟩ 0 8 c (X m') ∧ wa m c = W m'

variable {m m'} (h : Agree m m')

include h in
theorem xa_at (t : Dev KernelIdeal.nD) (a : Fin 512) (k : Fin 4096) (hr : 512 * t.val + a.val < 4096) :
    xa m t (ix2 a k) = X m' (ix2 ⟨512 * t.val + a.val, hr⟩ k) := by
  rw [(h t).1]
  generalize X m' = x
  rw [Layout.block_apply]
  shard_ext

include h in
/-- An entry that a device forms is the reference's entry at its row and column. -/
theorem entry (t : Dev KernelIdeal.nD) (n : ℕ) (hn : n < 8) (a : Fin 512) (b : Fin 256) (hr : 512 * t.val + a.val < 4096) (hc : 256 * n + b.val < 2048) :
    KernelIdeal.Gen.k0_pay1 (KernelIdealProof.xv m t) (KernelIdealProof.wv m t n) (ix2 a b) = yv m' (ix2 ⟨512 * t.val + a.val, hr⟩ ⟨256 * n + b.val, hc⟩) := by
  rw [pay1_at m t n hn, yv_at]
  refine congrArg (max · 0) (Finset.sum_congr rfl fun k _ => ?_)
  rw [xa_at h t a k hr, (h t).2]

include h in
/-- The two largest entries are one. -/
theorem largest (c : Dev KernelIdeal.nD) : gm m c = gv m' o0 := by
  refine eq_of_forall_ge_iff fun b => ?_
  rw [gm_le, gv_le]
  constructor
  · intro H i
    have h0 : (i 0).val < 4096 := (i 0).isLt
    have h1 : (i 1).val < 2048 := (i 1).isLt
    have e := H (⟨(i 0).val / 512, by show _ < 8; omega⟩ : Fin 8) ((i 1).val / 256) (by omega) (ix2 ⟨(i 0).val % 512, by omega⟩ ⟨(i 1).val % 256, by omega⟩)
    rw [entry h (⟨(i 0).val / 512, by show _ < 8; omega⟩ : Fin 8) ((i 1).val / 256) (by omega) ⟨(i 0).val % 512, by omega⟩ ⟨(i 1).val % 256, by omega⟩
      (by show 512 * ((i 0).val / 512) + (i 0).val % 512 < 4096; omega) (by show 256 * ((i 1).val / 256) + (i 1).val % 256 < 2048; omega)] at e
    refine le_of_eq_of_le (congrArg (yv m') ?_) e
    funext a
    match a with
    | ⟨0, _⟩ => exact Fin.ext (by show (i 0).val = 512 * ((i 0).val / 512) + (i 0).val % 512; omega)
    | ⟨1, _⟩ => exact Fin.ext (by show (i 1).val = 256 * ((i 1).val / 256) + (i 1).val % 256; omega)
  · intro H d n hn j
    have hd : d.val < 8 := d.isLt
    have h0 : (j 0).val < 512 := (j 0).isLt
    have h1 : (j 1).val < 256 := (j 1).isLt
    have e := entry h d n (by omega) ⟨(j 0).val, h0⟩ ⟨(j 1).val, h1⟩ (by show 512 * d.val + (j 0).val < 4096; omega) (by show 256 * n + (j 1).val < 2048; omega)
    have ej : j = ix2 (⟨(j 0).val, h0⟩ : Fin 512) (⟨(j 1).val, h1⟩ : Fin 256) := by
      funext a
      match a with
      | ⟨0, _⟩ => rfl
      | ⟨1, _⟩ => rfl
    rw [ej, e]
    exact H _

include h in
/-- An entry of a device's result is the reference's. -/
theorem result_at (c t : Dev KernelIdeal.nD) (a : Fin 512) (b : Fin 256) (hr : 512 * t.val + a.val < 4096) (hc : 256 * c.val + b.val < 2048) :
    rv m c t (ix2 a b) = ov m' (ix2 ⟨512 * t.val + a.val, hr⟩ ⟨256 * c.val + b.val, hc⟩) := by
  rw [rv_at, entry h t c.val c.isLt a b hr hc, largest h c, ov_at]
  exact Quant.kq_eq_rq (yv_nonneg m' _) ((gv_le m' _).1 le_rfl _)

include h in
/-- A device's result is its block of the reference's columns. -/
theorem result (c : Dev KernelIdeal.nD) (f : Buf (Elt Ideal) ((c : Thread KernelIdeal.nD KernelIdeal.τ).loc KernelIdeal.main_v1))
    (hf : ∀ t : Dev KernelIdeal.nD, (slot v1M ![512 * t.val, 0] KernelIdeal.S512x256.size (inb_v t)).view.read (Elt Ideal) f = rv m c t) :
    f = Layout.block ⟨2, ![4096, 256]⟩ ⟨2, ![4096, 2048]⟩ 1 8 c (ov m') := by
  funext i
  have h0 : (i 0).val < 4096 := (i 0).isLt
  have h1 : (i 1).val < 256 := (i 1).isLt
  have hc : c.val < 8 := c.isLt
  have e := congrFun (hf (⟨(i 0).val / 512, by show _ < 8; omega⟩ : Fin 8)) (ix2 (⟨(i 0).val % 512, by omega⟩ : Fin 512) (⟨(i 1).val, h1⟩ : Fin 256))
  rw [result_at h c (⟨(i 0).val / 512, by show _ < 8; omega⟩ : Fin 8) ⟨(i 0).val % 512, by omega⟩ ⟨(i 1).val, h1⟩
    (by show 512 * ((i 0).val / 512) + (i 0).val % 512 < 4096; omega) (by show 256 * c.val + (i 1).val < 2048; omega)] at e
  rw [Layout.block_apply]
  refine Eq.trans (congrArg f ?_) (e.trans (congrArg (ov m') ?_))
  · funext a
    match a with
    | ⟨0, _⟩ => exact Fin.ext (by show (i 0).val = 512 * ((i 0).val / 512) + 1 * ((i 0).val % 512); omega)
    | ⟨1, _⟩ => exact Fin.ext (by show (i 1).val = 0 + 1 * (i 1).val; omega)
  · shard_ext

/-- From launches that agree, the kernel's run leaves on each device its block of the reference's result, and the
    reference's run leaves that result; both leave their operands as they were. -/
theorem algebraic (g : Dev KernelIdeal.nD → PrngReg) (g' : Dev ReferenceIdeal.nD → PrngReg)
    (hm : ∀ c : Dev KernelIdeal.nD,
      m ((c.tc : Thread KernelIdeal.nD KernelIdeal.τ).loc KernelIdeal.main_arg0)
          = Layout.block ⟨2, ![512, 4096]⟩ ⟨2, ![4096, 4096]⟩ 0 8 c (m' (((0 : Dev ReferenceIdeal.nD).tc : Thread ReferenceIdeal.nD ReferenceIdeal.τ).loc ReferenceIdeal.main_arg0))
        ∧ m ((c.tc : Thread KernelIdeal.nD KernelIdeal.τ).loc KernelIdeal.main_arg1)
          = m' (((0 : Dev ReferenceIdeal.nD).tc : Thread ReferenceIdeal.nD ReferenceIdeal.τ).loc ReferenceIdeal.main_arg1)) :
    ∃ v0 : Buf (Elt Ideal) (((0 : Dev ReferenceIdeal.nD).tc : Thread ReferenceIdeal.nD ReferenceIdeal.τ).loc ReferenceIdeal.main_v15),
      θ_run (KernelIdeal.defs (F := Ideal)) (onTc (τ := KernelIdeal.τ) (KernelIdeal.main (F := Ideal))) ⟨m, fun _ => 0, g⟩ (fun r => ∀ c : Dev KernelIdeal.nD,
          r.2.mem ((c.tc : Thread KernelIdeal.nD KernelIdeal.τ).loc KernelIdeal.main_v1) = Layout.block ⟨2, ![4096, 256]⟩ ⟨2, ![4096, 2048]⟩ 1 8 c v0
          ∧ r.2.mem ((c.tc : Thread KernelIdeal.nD KernelIdeal.τ).loc KernelIdeal.main_arg0) = m ((c.tc : Thread KernelIdeal.nD KernelIdeal.τ).loc KernelIdeal.main_arg0)
          ∧ r.2.mem ((c.tc : Thread KernelIdeal.nD KernelIdeal.τ).loc KernelIdeal.main_arg1) = m ((c.tc : Thread KernelIdeal.nD KernelIdeal.τ).loc KernelIdeal.main_arg1))
      ∧ θ_run (ReferenceIdeal.defs (F := Ideal)) (onTc (τ := ReferenceIdeal.τ) (ReferenceIdeal.main (F := Ideal))) ⟨m', fun _ => 0, g'⟩ (fun r =>
          r.2.mem (((0 : Dev ReferenceIdeal.nD).tc : Thread ReferenceIdeal.nD ReferenceIdeal.τ).loc ReferenceIdeal.main_v15) = v0
          ∧ r.2.mem (((0 : Dev ReferenceIdeal.nD).tc : Thread ReferenceIdeal.nD ReferenceIdeal.τ).loc ReferenceIdeal.main_arg0) = m' (((0 : Dev ReferenceIdeal.nD).tc : Thread ReferenceIdeal.nD ReferenceIdeal.τ).loc ReferenceIdeal.main_arg0)
          ∧ r.2.mem (((0 : Dev ReferenceIdeal.nD).tc : Thread ReferenceIdeal.nD ReferenceIdeal.τ).loc ReferenceIdeal.main_arg1) = m' (((0 : Dev ReferenceIdeal.nD).tc : Thread ReferenceIdeal.nD ReferenceIdeal.τ).loc ReferenceIdeal.main_arg1)) :=
  ⟨ov m', (θ_run _ _ _).mono (fun _ r c => ⟨result (m := m) (m' := m') hm c _ (r.1 c).1, (r.1 c).2⟩) (run_value m g),
    (θ_run _ _ _).mono (fun _ r => ⟨r.1, r.2 0⟩) (θ_run_and (ReferenceIdealProof.run m' g') (ReferenceIdeal.Gen.unchanged m' g'))⟩

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Run
public import proofs.«01_k».proof.Proof.Float.Run
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m g _ => Cert.KernelProof.frame (F := Bits) m g,
  fun m g _ => Cert.KernelIdealProof.frame (F := Ideal) m g, fun m g _ => Cert.ReferenceIdeal.Gen.frame m g, trivial,
  fun _ g _ g' _ h => Cert.Same.algebraic g g' h⟩

end Cert.Proof

end
